-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64 : Shape := ⟨1, ![64]⟩
abbrev S64x16 : Shape := ⟨2, ![64, 16]⟩
abbrev S_ : Shape := ⟨0, ![]⟩
abbrev S30000x512 : Shape := ⟨2, ![30000, 512]⟩
abbrev S100x128 : Shape := ⟨2, ![100, 128]⟩
abbrev S50x64 : Shape := ⟨2, ![50, 64]⟩
abbrev S2112x1024 : Shape := ⟨2, ![2112, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S704x1024 : Shape := ⟨2, ![704, 1024]⟩

class Facts : Prop where
  bcast_S_S30000x512 : S_.BroadcastsInDim S30000x512 (![] : Fin 0 → Fin S30000x512.rank)
  reducesTo_S30000x512_S_d0_1 : S30000x512.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S50x64 : S_.BroadcastsInDim S50x64 (![] : Fin 0 → Fin S50x64.rank)
  reducesTo_S50x64_S_d0_1 : S50x64.ReducesTo [0, 1] S_
  slices_S2112x1024_S704x1024_1408_0 : S2112x1024.Slices ![1408, 0] S704x1024
  bcast_S_S704x1024 : S_.BroadcastsInDim S704x1024 (![] : Fin 0 → Fin S704x1024.rank)
  reducesTo_S704x1024_S_d0_1 : S704x1024.ReducesTo [0, 1] S_

variable [Facts]

def fn_part1 {F : FTy → Type} [FloatOps F] (main_v13 : IVec S_ 1) (main_v15 : FVec F S704x1024 .f32) (main_v16 : FVec F S704x1024 .f32) : IVec S_ 1 :=
  let main_v17 : IVec S704x1024 1 := cmpf .olt main_v15 main_v16
  let main_c_5 : IVec S_ 1 := constantI S_ 1 1#1
  let main_v18 : IVec S_ 1 := (fun x v => Host.reduce IntOp.andi x v reducesTo_S704x1024_S_d0_1 h_S_) main_v17 main_c_5
  let main_v19 : IVec S_ 1 := andi main_v13 main_v18
  main_v19

def fn {F : FTy → Type} [FloatOps F] (main_arg0 : IVec S64 32) (main_arg1 : IVec S64x16 32) (main_arg2 : IVec S64 32) (main_arg3 : IVec S_ 32) (main_arg4 : FVec F S30000x512 .f32) (main_arg5 : FVec F S100x128 .f32) (main_arg6 : FVec F S50x64 .f32) (main_arg7 : FVec F S2112x1024 .f32) (main_arg8 : FVec F S1024 .f32) (main_arg9 : FVec F S1024x256 .f32) (main_arg10 : FVec F S256 .f32) (main_arg11 : FVec F S1024x64 .f32) (main_arg12 : FVec F S64 .f32) : IVec S_ 1 :=
  let main_v0 : FVec F S30000x512 .f32 := Host.absf main_arg4
  let main_cst : FVec F S_ .f32 := constant S_ .f32 0x7F800000#32
  let main_v1 : FVec F S30000x512 .f32 := broadcastInDim S30000x512 ![] bcast_S_S30000x512 main_cst
  let main_v2 : IVec S30000x512 1 := cmpf .olt main_v0 main_v1
  let main_c : IVec S_ 1 := constantI S_ 1 1#1
  let main_v3 : IVec S_ 1 := (fun x v => Host.reduce IntOp.andi x v reducesTo_S30000x512_S_d0_1 h_S_) main_v2 main_c
  let main_v4 : FVec F S100x128 .f32 := Host.absf main_arg5
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S50x64 .f32 := Host.absf main_arg6
  let main_cst_2 : FVec F S_ .f32 := constant S_ .f32 0x7F800000#32
  let main_v10 : FVec F S50x64 .f32 := broadcastInDim S50x64 ![] bcast_S_S50x64 main_cst_2
  let main_v11 : IVec S50x64 1 := cmpf .olt main_v9 main_v10
  let main_c_3 : IVec S_ 1 := constantI S_ 1 1#1
  let main_v12 : IVec S_ 1 := (fun x v => Host.reduce IntOp.andi x v reducesTo_S50x64_S_d0_1 h_S_) main_v11 main_c_3
  let main_v13 : IVec S_ 1 := andi main_v8 main_v12
  let main_v14 : FVec F S704x1024 .f32 := (extractStridedSlice S704x1024 ![1408, 0] · slices_S2112x1024_S704x1024_1408_0) main_arg7
  let main_v15 : FVec F S704x1024 .f32 := Host.absf main_v14
  let main_cst_4 : FVec F S_ .f32 := constant S_ .f32 0x7F800000#32
  let main_v16 : FVec F S704x1024 .f32 := broadcastInDim S704x1024 ![] bcast_S_S704x1024 main_cst_4
  fn_part1 (F := F) main_v13 main_v15 main_v16
-- ==== Kernel.lean ====
abbrev S64 : Shape := ⟨1, ![64]⟩
abbrev S64x16 : Shape := ⟨2, ![64, 16]⟩
abbrev S_ : Shape := ⟨0, ![]⟩
abbrev S30000x512 : Shape := ⟨2, ![30000, 512]⟩
abbrev S100x128 : Shape := ⟨2, ![100, 128]⟩
abbrev S50x64 : Shape := ⟨2, ![50, 64]⟩
abbrev S2112x1024 : Shape := ⟨2, ![2112, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S64x1 : Shape := ⟨2, ![64, 1]⟩
abbrev S64x512 : Shape := ⟨2, ![64, 512]⟩
abbrev S64x16x1 : Shape := ⟨3, ![64, 16, 1]⟩
abbrev S64x16x128 : Shape := ⟨3, ![64, 16, 128]⟩
abbrev S64x128 : Shape := ⟨2, ![64, 128]⟩
abbrev S64x64 : Shape := ⟨2, ![64, 64]⟩
abbrev S64x704 : Shape := ⟨2, ![64, 704]⟩
abbrev S1x1024 : Shape := ⟨2, ![1, 1024]⟩
abbrev S1x256 : Shape := ⟨2, ![1, 256]⟩
abbrev S1024x1 : Shape := ⟨2, ![1024, 1]⟩
abbrev S1 : Shape := ⟨1, ![1]⟩
abbrev S1x1 : Shape := ⟨2, ![1, 1]⟩
abbrev S704x1024 : Shape := ⟨2, ![704, 1024]⟩
abbrev S64x1024 : Shape := ⟨2, ![64, 1024]⟩
abbrev S128x64 : Shape := ⟨2, ![128, 64]⟩
abbrev S128x1024 : Shape := ⟨2, ![128, 1024]⟩
abbrev S256x1024 : Shape := ⟨2, ![256, 1024]⟩
abbrev S128x1 : Shape := ⟨2, ![128, 1]⟩
abbrev S128x256 : Shape := ⟨2, ![128, 256]⟩
abbrev S1x128x256 : Shape := ⟨3, ![1, 128, 256]⟩
abbrev S1x1x1 : Shape := ⟨3, ![1, 1, 1]⟩
abbrev S128 : Shape := ⟨1, ![128]⟩
abbrev S1x128x1 : Shape := ⟨3, ![1, 128, 1]⟩
abbrev S64x256 : Shape := ⟨2, ![64, 256]⟩
abbrev S1x64x256 : Shape := ⟨3, ![1, 64, 256]⟩
abbrev S1x64x1 : Shape := ⟨3, ![1, 64, 1]⟩
abbrev S1x64x128 : Shape := ⟨3, ![1, 64, 128]⟩

abbrev nBuf : Space → Nat
  | .hbm => 53
  | .vmem => 8
  | .smem => 0
  | _ => 0

abbrev bufTy : (tb : Table) → Fin (tcTables nBuf tb) → BufTy
  | .hbm, ⟨0, _⟩ => ⟨S64, .i32⟩
  | .hbm, ⟨1, _⟩ => ⟨S64x16, .i32⟩
  | .hbm, ⟨2, _⟩ => ⟨S64, .i32⟩
  | .hbm, ⟨3, _⟩ => ⟨S_, .i32⟩
  | .hbm, ⟨4, _⟩ => ⟨S30000x512, .f32⟩
  | .hbm, ⟨5, _⟩ => ⟨S100x128, .f32⟩
  | .hbm, ⟨6, _⟩ => ⟨S50x64, .f32⟩
  | .hbm, ⟨7, _⟩ => ⟨S2112x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1024x64, .f32⟩
  | .hbm, ⟨12, _⟩ => ⟨S64, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x512, .f32⟩
  | .hbm, ⟨22, _⟩ => ⟨S_, .i32⟩
  | .hbm, ⟨23, _⟩ => ⟨S64x16, .i32⟩
  | .hbm, ⟨24, _⟩ => ⟨S64x16, .i1⟩
  | .hbm, ⟨25, _⟩ => ⟨S_, .i32⟩
  | .hbm, ⟨26, _⟩ => ⟨S64x16, .i32⟩
  | .hbm, ⟨27, _⟩ => ⟨S64x16, .i32⟩
  | .hbm, ⟨28, _⟩ => ⟨S64x16, .i32⟩
  | .hbm, ⟨29, _⟩ => ⟨S64x16x1, .i32⟩
  | .hbm, ⟨30, _⟩ => ⟨S64x16x128, .f32⟩
  | .hbm, ⟨31, _⟩ => ⟨S_, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x64, .f32⟩
  | .hbm, ⟨45, _⟩ => ⟨S64x704, .f32⟩
  | .hbm, ⟨46, _⟩ => ⟨S1x1024, .f32⟩
  | .hbm, ⟨47, _⟩ => ⟨S1x256, .f32⟩
  | .hbm, ⟨48, _⟩ => ⟨S1024x1, .f32⟩
  | .hbm, ⟨49, _⟩ => ⟨S1, .f32⟩
  | .hbm, ⟨50, _⟩ => ⟨S_, .f32⟩
  | .hbm, ⟨51, _⟩ => ⟨S1x1, .f32⟩
  | .hbm, ⟨52, _⟩ => ⟨S1x1, .f32⟩
  | .local _ .vmem, ⟨0, _⟩ => ⟨S64x704, .f32⟩
  | .local _ .vmem, ⟨1, _⟩ => ⟨S2112x1024, .f32⟩
  | .local _ .vmem, ⟨2, _⟩ => ⟨S1x1024, .f32⟩
  | .local _ .vmem, ⟨3, _⟩ => ⟨S1024x256, .f32⟩
  | .local _ .vmem, ⟨4, _⟩ => ⟨S1x256, .f32⟩
  | .local _ .vmem, ⟨5, _⟩ => ⟨S1024x1, .f32⟩
  | .local _ .vmem, ⟨6, _⟩ => ⟨S1x1, .f32⟩
  | .local _ .vmem, ⟨7, _⟩ => ⟨S1x1, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_20 : BitVec 32 := 0#32
  let c31_i32_21 : BitVec 32 := 31#32
  let v53 : BitVec 32 := Scalar.addi c0_i32_20 c31_i32_21
  let c1_i32 : BitVec 32 := 1#32
  ⟨c0_i32_20, v53, c1_i32⟩
@[reducible] def k0_t2_loop : Scf.Loop 32 :=
  let c2_i32 : BitVec 32 := 2#32
  let c63_i32_40 : BitVec 32 := 63#32
  let v110 : BitVec 32 := Scalar.addi c2_i32 c63_i32_40
  let c1_i32_41 : BitVec 32 := 1#32
  ⟨c2_i32, v110, c1_i32_41⟩
abbrev stage0_0 : Fin 1 → Memref sig .tc .vmem S64x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S64 : Shape := ⟨1, ![64]⟩
abbrev S64x16 : Shape := ⟨2, ![64, 16]⟩
abbrev S_ : Shape := ⟨0, ![]⟩
abbrev S30000x512 : Shape := ⟨2, ![30000, 512]⟩
abbrev S100x128 : Shape := ⟨2, ![100, 128]⟩
abbrev S50x64 : Shape := ⟨2, ![50, 64]⟩
abbrev S2112x1024 : Shape := ⟨2, ![2112, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S64x1 : Shape := ⟨2, ![64, 1]⟩
abbrev S64x512 : Shape := ⟨2, ![64, 512]⟩
abbrev S64x16x1 : Shape := ⟨3, ![64, 16, 1]⟩
abbrev S64x16x128 : Shape := ⟨3, ![64, 16, 128]⟩
abbrev S64x128 : Shape := ⟨2, ![64, 128]⟩
abbrev S64x64 : Shape := ⟨2, ![64, 64]⟩
abbrev S64x704 : Shape := ⟨2, ![64, 704]⟩
abbrev S1x704 : Shape := ⟨2, ![1, 704]⟩
abbrev S65x704 : Shape := ⟨2, ![65, 704]⟩
abbrev S64x1x704 : Shape := ⟨3, ![64, 1, 704]⟩
abbrev S64x64x704 : Shape := ⟨3, ![64, 64, 704]⟩
abbrev S1x64x704 : Shape := ⟨3, ![1, 64, 704]⟩
abbrev S64x64x1 : Shape := ⟨3, ![64, 64, 1]⟩
abbrev S64x64x2112 : Shape := ⟨3, ![64, 64, 2112]⟩
abbrev S64x64x1024 : Shape := ⟨3, ![64, 64, 1024]⟩
abbrev S1x1x1024 : Shape := ⟨3, ![1, 1, 1024]⟩
abbrev S64x64x256 : Shape := ⟨3, ![64, 64, 256]⟩
abbrev S1x1x256 : Shape := ⟨3, ![1, 1, 256]⟩
abbrev S63x1x1 : Shape := ⟨3, ![63, 1, 1]⟩
abbrev S63 : Shape := ⟨1, ![63]⟩
abbrev S63x1x1024 : Shape := ⟨3, ![63, 1, 1024]⟩
abbrev S63x1024 : Shape := ⟨2, ![63, 1024]⟩
abbrev S63x64 : Shape := ⟨2, ![63, 64]⟩
abbrev S1x64 : Shape := ⟨2, ![1, 64]⟩
abbrev S63x1 : Shape := ⟨2, ![63, 1]⟩
abbrev S65x65 : Shape := ⟨2, ![65, 65]⟩
abbrev S65x65x65 : Shape := ⟨3, ![65, 65, 65]⟩
abbrev S65x65x1 : Shape := ⟨3, ![65, 65, 1]⟩
abbrev S1x65x65 : Shape := ⟨3, ![1, 65, 65]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S64, .i32⟩
  | 1 => ⟨S64x16, .i32⟩
  | 2 => ⟨S64, .i32⟩
  | 3 => ⟨S_, .i32⟩
  | 4 => ⟨S30000x512, .f32⟩
  | 5 => ⟨S100x128, .f32⟩
  | 6 => ⟨S50x64, .f32⟩
  | 7 => ⟨S2112x1024, .f32⟩
  | 8 => ⟨S1024, .f32⟩
  | 9 => ⟨S1024x256, .f32⟩
  | 10 => ⟨S256, .f32⟩
  | 11 => ⟨S1024x64, .f32⟩
  | 12 => ⟨S64, .f32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S64x512, .f32⟩
  | 22 => ⟨S_, .i32⟩
  | 23 => ⟨S64x16, .i32⟩
  | 24 => ⟨S64x16, .i1⟩
  | 25 => ⟨S_, .i32⟩
  | 26 => ⟨S64x16, .i32⟩
  | 27 => ⟨S64x16, .i32⟩
  | 28 => ⟨S64x16, .i32⟩
  | 29 => ⟨S64x16x1, .i32⟩
  | 30 => ⟨S64x16x128, .f32⟩
  | 31 => ⟨S_, .f32⟩
  | 32 => ⟨S64x128, .f32⟩
  | 33 => ⟨S_, .f32⟩
  | 34 => ⟨S64x128, .f32⟩
  | 35 => ⟨S64x128, .f32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S64x64, .f32⟩
  | 45 => ⟨S64x704, .f32⟩
  | 46 => ⟨S_, .f32⟩
  | 47 => ⟨S1x704, .f32⟩
  | 48 => ⟨S_, .f32⟩
  | 49 => ⟨S_, .f32⟩
  | 50 => ⟨S64x704, .f32⟩
  | 51 => ⟨S65x704, .f32⟩
  | 52 => ⟨S64x64, .i32⟩
  | 53 => ⟨S64x64, .i32⟩
  | 54 => ⟨S_, .i32⟩
  | 55 => ⟨S64x64, .i32⟩
  | 56 => ⟨S64x64, .i32⟩
  | 57 => ⟨S64x64, .i32⟩
  | 58 => ⟨S_, .i32⟩
  | 59 => ⟨S64x64, .i32⟩
  | 60 => ⟨S64x64, .i32⟩
  | 61 => ⟨S64x64, .f32⟩
  | 62 => ⟨S64x1x704, .f32⟩
  | 63 => ⟨S64x64x704, .f32⟩
  | 64 => ⟨S1x64x704, .f32⟩
  | 65 => ⟨S64x64x704, .f32⟩
  | 66 => ⟨S64x704, .f32⟩
  | 67 => ⟨S1x64x704, .f32⟩
  | 68 => ⟨S64x704, .f32⟩
  | 69 => ⟨S64x1x704, .f32⟩
  | 70 => ⟨S64x64x704, .f32⟩
  | 71 => ⟨S64x64x704, .f32⟩
  | 72 => ⟨S64x64x704, .f32⟩
  | 73 => ⟨S64x64x1, .f32⟩
  | 74 => ⟨S64x64x704, .f32⟩
  | 75 => ⟨S64x64x704, .f32⟩
  | 76 => ⟨S64x64x2112, .f32⟩
  | 77 => ⟨S64x64x1024, .f32⟩
  | 78 => ⟨S1x1x1024, .f32⟩
  | 79 => ⟨S64x64x1024, .f32⟩
  | 80 => ⟨S64x64x1024, .f32⟩
  | 81 => ⟨S_, .f32⟩
  | 82 => ⟨S64x64x1024, .f32⟩
  | 83 => ⟨S64x64x1024, .f32⟩
  | 84 => ⟨S64x64x256, .f32⟩
  | 85 => ⟨S1x1x256, .f32⟩
  | 86 => ⟨S64x64x256, .f32⟩
  | 87 => ⟨S64x64x256, .f32⟩
  | 88 => ⟨S64x64x256, .i32⟩
  | 89 => ⟨S64x64x256, .i32⟩
  | 90 => ⟨S64x64x256, .i32⟩
  | 91 => ⟨S_, .i32⟩
  | 92 => ⟨S64x64x256, .i32⟩
  | 93 => ⟨S64x64x256, .i1⟩
  | 94 => ⟨S_, .i32⟩
  | 95 => ⟨S64x64x256, .i32⟩
  | 96 => ⟨S64x64x256, .i1⟩
  | 97 => ⟨S64x64x256, .i1⟩
  | 98 => ⟨S_, .i32⟩
  | 99 => ⟨S64x64x256, .i32⟩
  | 100 => ⟨S64x64x256, .i1⟩
  | 101 => ⟨S64x64x256, .i1⟩
  | 102 => ⟨S_, .f32⟩
  | 103 => ⟨S64x64x256, .f32⟩
  | 104 => ⟨S64x64x256, .f32⟩
  | 105 => ⟨S64x64x256, .f32⟩
  | 106 => ⟨S63x1x1, .f32⟩
  | 107 => ⟨S63, .f32⟩
  | 108 => ⟨S_, .f32⟩
  | 109 => ⟨S_, .f32⟩
  | 110 => ⟨S_, .f32⟩
  | 111 => ⟨S64x64, .f32⟩
  | 112 => ⟨S63x1x1024, .f32⟩
  | 113 => ⟨S63x1024, .f32⟩
  | 114 => ⟨S63x64, .f32⟩
  | 115 => ⟨S1x64, .f32⟩
  | 116 => ⟨S63x64, .f32⟩
  | 117 => ⟨S63x64, .f32⟩
  | 118 => ⟨S63x1, .f32⟩
  | 119 => ⟨S63, .f32⟩
  | 120 => ⟨S_, .f32⟩
  | 121 => ⟨S_, .f32⟩
  | 122 => ⟨S_, .f32⟩
  | 123 => ⟨S_, .f32⟩
  | 124 => ⟨S_, .f32⟩
  | 125 => ⟨S_, .i32⟩
  | 126 => ⟨S_, .f32⟩
  | 127 => ⟨S65x65, .f32⟩
  | _ => ⟨S64, .i32⟩

abbrev hbmTy0_1 (i : Nat) : BufTy := match i % 128 with
  | 0 => ⟨S65x65x65, .i32⟩
  | 1 => ⟨S65x65x65, .i32⟩
  | 2 => ⟨S65x65x65, .i32⟩
  | 3 => ⟨S65x65x65, .i1⟩
  | 4 => ⟨S65x65x65, .i1⟩
  | 5 => ⟨S65x65x65, .i1⟩
  | 6 => ⟨S65x65, .i32⟩
  | 7 => ⟨S65x65, .i32⟩
  | 8 => ⟨S65x65, .i32⟩
  | 9 => ⟨S_, .f32⟩
  | 10 => ⟨S65x65, .f32⟩
  | 11 => ⟨S_, .i32⟩
  | 12 => ⟨S_, .i32⟩
  | 13 => ⟨S65x65x65, .i1⟩
  | 14 => ⟨S65x65, .i32⟩
  | 15 => ⟨S65x65, .f32⟩
  | 16 => ⟨S_, .i32⟩
  | 17 => ⟨S_, .i32⟩
  | 18 => ⟨S65x65, .f32⟩
  | 19 => ⟨S_, .i32⟩
  | 20 => ⟨S_, .i1⟩
  | 21 => ⟨S_, .i32⟩
  | 22 => ⟨S_, .i32⟩
  | 23 => ⟨S65x65x1, .f32⟩
  | 24 => ⟨S1x65x65, .f32⟩
  | 25 => ⟨S65x65x65, .f32⟩
  | 26 => ⟨S65x65x65, .f32⟩
  | 27 => ⟨S65x65x65, .f32⟩
  | 28 => ⟨S_, .f32⟩
  | 29 => ⟨S_, .f32⟩
  | 30 => ⟨S65x65x65, .f32⟩
  | 31 => ⟨S65x65x65, .f32⟩
  | 32 => ⟨S_, .f32⟩
  | 33 => ⟨S65x65, .f32⟩
  | 34 => ⟨S_, .i32⟩
  | 35 => ⟨S_, .i32⟩
  | 36 => ⟨S_, .i32⟩
  | 37 => ⟨S65x65, .i32⟩
  | 38 => ⟨S65x65, .i1⟩
  | 39 => ⟨S65x65, .f32⟩
  | 40 => ⟨S65x65, .f32⟩
  | 41 => ⟨S_, .i32⟩
  | 42 => ⟨S_, .i32⟩
  | 43 => ⟨S1x1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x1, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_call0_call0_cst : Ref sig .tc := ⟨.hbm, 48, rfl⟩
abbrev main_call0_call0_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_15 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_c_17 : Ref sig .tc := ⟨.hbm, 125, rfl⟩
abbrev main_call3_v0 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_c_19 : Ref sig .tc := ⟨.hbm, 139, rfl⟩
abbrev main_c_20 : Ref sig .tc := ⟨.hbm, 140, rfl⟩
abbrev main_v100_0 : Ref sig .tc := ⟨.hbm, 141, rfl⟩
abbrev main_v100_1 : Ref sig .tc := ⟨.hbm, 142, rfl⟩
abbrev main_v100_2 : Ref sig .tc := ⟨.hbm, 143, rfl⟩
abbrev main_v100_3 : Ref sig .tc := ⟨.hbm, 144, rfl⟩
abbrev main_v100_4 : Ref sig .tc := ⟨.hbm, 145, rfl⟩
abbrev main_v100_5 : Ref sig .tc := ⟨.hbm, 146, rfl⟩
abbrev main_while0c_c_27 : Ref sig .tc := ⟨.hbm, 147, rfl⟩
abbrev main_while0c_v108 : Ref sig .tc := ⟨.hbm, 148, rfl⟩
abbrev main_while0b_c_27 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_cst_28 : Ref sig .tc := ⟨.hbm, 156, rfl⟩
abbrev main_while0b_call4_v0 : Ref sig .tc := ⟨.hbm, 157, rfl⟩
abbrev main_while0b_call4_v1 : Ref sig .tc := ⟨.hbm, 158, rfl⟩
abbrev main_while0b_v114 : Ref sig .tc := ⟨.hbm, 159, rfl⟩
abbrev main_while0b_cst_29 : Ref sig .tc := ⟨.hbm, 160, rfl⟩
abbrev main_while0b_v115 : Ref sig .tc := ⟨.hbm, 161, rfl⟩
abbrev main_while0b_c_30 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_c_31 : Ref sig .tc := ⟨.hbm, 169, rfl⟩
abbrev main_while0b_v122 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_call6_cst : Ref sig .tc := ⟨.hbm, 174, rfl⟩
abbrev main_v104 : Ref sig .tc := ⟨.hbm, 175, rfl⟩
abbrev main_cst_21 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩

abbrev nD : Nat := 1
abbrev τ : Topo := Topo.v7x

variable {F : FTy → Type} [FloatOps F]

abbrev main_while0_count : Scf.Loop 32 := ⟨0#32, 63#32, 1#32⟩
-- ==== Proof.IdealBody.lean ====
/- What the kernel's body computes, as a function of its input blocks. Both of the body's loops only pass values on, so
   each is the fold of its one trip, and the body is: read the blocks, fold twice, store one number. -/
module

public import proofs.«01_k».proof.Proof.Gen.KernelIdeal.Frame
public import proofs.«01_k».proof.Proof.Gen.KernelIdeal.Loops
public import Idealize.ShloMosaic.Lib.Exec

@[expose] public section

set_option maxRecDepth 16384

noncomputable section

namespace Cert.KernelIdeal.Body

open Cert.KernelIdeal Cert.KernelIdeal.Gen Idealize.ShloMosaic Idealize.SL.Sem

variable {F : FTy → Type} [FloatOps F] [Named F]

/-! ## The loops -/

/-- One trip of the loop over the span lengths: two lengths' span features go into the gold score, the tag score and the
    table of span scores. -/
def pairStep (v16 : FVec F S256x1024 .bf16) (v18 : FVec F S1x1024 .f32) (v20 : FVec F S1x256 .f32)
    (v23 : FVec F S1024x1 .bf16) (v25 : FVec F S1024x256 .bf16) (v27 : IVec S128x1 32) (v30 : IVec S1x256 1)
    (v31 : IVec S64x128 32) (v32 : IVec S128x256 32) (v34 : IVec S128x1 32) (v36 : IVec S128x1 1)
    (k : Fin k0_t1_loop.trips) (acc : F .f32 × F .f32 × FVec F S64x128 .f32) : F .f32 × F .f32 × FVec F S64x128 .f32 :=
  let hid := k0_pay2 v16 v18 v27 v32 v34 (k0_pay18 v36) (k0_pay19 v32 v34) (k0_pay20 v32 v34) 0#32 1#32 k
  let feats := k0_pay3 v16 v18 v20 v25 v27 v32 v34 (k0_pay18 v36) (k0_pay19 v32 v34) (k0_pay20 v32 v34) 0#32 1#32 k
  let ln := Scalar.addi (Scf.iv 0#32 1#32 k) 2#32
  (k0_pay25 v27 v30 acc.1 ln feats (k0_pay4 0#32 1#32 k), k0_pay27 v23 v27 acc.2.1 ln hid (k0_pay4 0#32 1#32 k),
    k0_pay26 v27 v30 v31 acc.2.2 ln feats (k0_pay4 0#32 1#32 k))

/-- The loop over the span lengths: its trips in order, from zeros. -/
def pairs (v16 : FVec F S256x1024 .bf16) (v18 : FVec F S1x1024 .f32) (v20 : FVec F S1x256 .f32)
    (v23 : FVec F S1024x1 .bf16) (v25 : FVec F S1024x256 .bf16) (v27 : IVec S128x1 32) (v30 : IVec S1x256 1)
    (v31 : IVec S64x128 32) (v32 : IVec S128x256 32) (v34 : IVec S128x1 32) (v36 : IVec S128x1 1) :
    F .f32 × F .f32 × FVec F S64x128 .f32 :=
  Scf.fold (pairStep v16 v18 v20 v23 v25 v27 v30 v31 v32 v34 v36)
    (Scalar.ofBits .f32 0x00000000#32, Scalar.ofBits .f32 0x00000000#32, k0_pay21)

/-- One trip of the chart loop: the next span length's column of the left table, and of the right table. -/
def chartStep (v31 : IVec S64x128 32) (sc : FVec F S64x128 .f32) (v77 : FVec F S64x256 .f32) (k : Fin k0_t2_loop.trips)
    (acc : FVec F S64x128 .f32 × FVec F S128x64 .f32) : FVec F S64x128 .f32 × FVec F S128x64 .f32 :=
  (k0_pay37 v31 sc v77 k acc.1 acc.2, k0_pay38 v31 sc v77 k acc.1 acc.2)

/-- The chart loop: its trips in order, from the tables of the spans of length one. -/
def chart (v31 : IVec S64x128 32) (sc : FVec F S64x128 .f32) (v77 : FVec F S64x256 .f32) :
    FVec F S64x128 .f32 × FVec F S128x64 .f32 :=
  Scf.fold (chartStep v31 sc v77) (k0_pay34, k0_pay35)

section Parts

variable (arg0 : Memref sig .tc .vmem S64x704 .f32) (harg0 : arg0.IsWhole) (arg1 : Memref sig .tc .vmem S2112x1024 .f32) (harg1 : arg1.IsWhole)
  (arg2 : Memref sig .tc .vmem S1x1024 .f32) (harg2 : arg2.IsWhole) (arg3 : Memref sig .tc .vmem S1024x256 .f32) (harg3 : arg3.IsWhole)
  (arg4 : Memref sig .tc .vmem S1x256 .f32) (harg4 : arg4.IsWhole) (arg5 : Memref sig .tc .vmem S1024x1 .f32) (harg5 : arg5.IsWhole)
  (arg6 : Memref sig .tc .vmem S1x1 .f32) (harg6 : arg6.IsWhole) (arg7 : Memref sig .tc .vmem S1x1 .f32) (harg7 : arg7.IsWhole)

/-- The part around the first loop only computes: it returns the loop's fold and the features of the whole sentence. -/
theorem part3_eq (v3 : FVec F S64x1024 .f32) (v5 : FVec F S64x1024 .f32) (v13 : FVec F S128x1024 .f32) (v14 : FVec F S64x1024 .f32)
    (v16 : FVec F S256x1024 .bf16) (v18 : FVec F S1x1024 .f32) (v20 : FVec F S1x256 .f32) (v23 : FVec F S1024x1 .bf16)
    (v25 : FVec F S1024x256 .bf16) (v26 : IVec S64x1 32) (v27 : IVec S128x1 32) (v30 : IVec S1x256 1) (v31 : IVec S64x128 32)
    (v32 : IVec S128x256 32) (v34 : IVec S128x1 32) (v36 : IVec S128x1 1) :
    k0_part3 arg0 harg0 arg1 harg1 arg2 harg2 arg3 harg3 arg4 harg4 arg5 harg5 arg6 harg6 arg7 harg7
        v3 v5 v13 v14 v16 v18 v20 v23 v25 v26 v27 v30 v31 v32 v34 v36
      = pure ⟨(pairs v16 v18 v20 v23 v25 v27 v30 v31 v32 v34 v36).1, (pairs v16 v18 v20 v23 v25 v27 v30 v31 v32 v34 v36).2.1,
          (pairs v16 v18 v20 v23 v25 v27 v30 v31 v32 v34 v36).2.2, k0_pay28 v3 v5 v13 v14 v18,
          k0_pay30 v3 v5 v13 v14 v18 v20 v25 v26 v30, k0_pay31 v3 v5 v13 v14 v18 v20 v25 v26 v30⟩ := by
  rw [k0_part3_eq_skeleton]
  exact Scf.for_pure_bind _ _ _ k0_t1_ok _ _ (pairStep v16 v18 v20 v23 v25 v27 v30 v31 v32 v34 v36)
    (fun k acc => by rw [k0_t1_body, k0_part1_eq_skeleton]; rfl) _

/-- The part around the chart loop only computes: it returns the gold score, the tag score and the chart's top entry. -/
theorem part4_eq (v23 : FVec F S1024x1 .bf16) (v26 : IVec S64x1 32) (v31 : IVec S64x128 32) (g t : F .f32)
    (sc : FVec F S64x128 .f32) (v66 : FVec F S64x1024 .bf16) (v77 : FVec F S64x256 .f32) (v80 : FVec F S1x64x256 .f32) :
    k0_part4 arg0 harg0 arg1 harg1 arg2 harg2 arg3 harg3 arg4 harg4 arg5 harg5 arg6 harg6 arg7 harg7 v23 v26 v31 g t sc v66 v77 v80
      = pure ⟨k0_pay32 g v80, k0_pay33 v23 v26 t v66, k0_pay39 v31 (chart v31 sc v77).1⟩ := by
  rw [k0_part4_eq_skeleton]
  exact Scf.for_pure_bind _ _ _ k0_t2_ok _ _ (chartStep v31 sc v77) (fun k acc => rfl) _

end Parts

/-! ## The body as a function of its blocks -/

abbrev rOut : Rect S1x1 := Rect.unit (s := S1x1) ![0, 0] S1x1.size inb_S1x1_S1x1_0_0
abbrev rH : Rect S64x704 := Rect.unit (s := S64x704) ![0, 0] S64x704.size inb_S64x704_S64x704_0_0
abbrev rWa : Rect S2112x1024 := Rect.unit (s := S2112x1024) ![0, 0] S704x1024.size inb_S2112x1024_S704x1024_0_0
abbrev rWb : Rect S2112x1024 := Rect.unit (s := S2112x1024) ![704, 0] S704x1024.size inb_S2112x1024_S704x1024_704_0
abbrev rWc : Rect S2112x1024 := Rect.unit (s := S2112x1024) ![1408, 0] S704x1024.size inb_S2112x1024_S704x1024_1408_0
abbrev rB1 : Rect S1x1024 := Rect.unit (s := S1x1024) ![0, 0] S1x1024.size inb_S1x1024_S1x1024_0_0
abbrev rB2 : Rect S1x256 := Rect.unit (s := S1x256) ![0, 0] S1x256.size inb_S1x256_S1x256_0_0
abbrev rWt : Rect S1024x1 := Rect.unit (s := S1024x1) ![0, 0] S1024x1.size inb_S1024x1_S1024x1_0_0
abbrev rW2 : Rect S1024x256 := Rect.unit (s := S1024x256) ![0, 0] S1024x256.size inb_S1024x256_S1024x256_0_0

/-- The row numbers, lane numbers and masks the body works with. -/
abbrev rows64 : IVec S64x1 32 := iota .tc S64x1 32 [0] iota_S64x1_d0_w32
abbrev rows128 : IVec S128x1 32 := iota .tc S128x1 32 [0] iota_S128x1_d0_w32
abbrev lane64 : IVec S64x128 32 := iota .tc S64x128 32 [1] iota_S64x128_d1_w32
abbrev colP : IVec S128x256 32 := iota .tc S128x256 32 [1] iota_S128x256_d1_w32

section Blocks

variable (x0 : Vec F S64x704 .f32) (x1 : Vec F S2112x1024 .f32) (x2 : Vec F S1x1024 .f32) (x3 : Vec F S1024x256 .f32)
  (x4 : Vec F S1x256 .f32) (x5 : Vec F S1024x1 .f32) (x6 : Vec F S1x1 .f32)

/-- The first loop's result on the input blocks: gold score, tag score, span scores, for the lengths 2 to 63. -/
def short : F .f32 × F .f32 × FVec F S64x128 .f32 :=
  pairs (k0_pay10 (View.ld x0 rH) (View.ld x1 rWa) (View.ld x1 rWb) (View.ld x1 rWc)) (k0_pay11 (View.ld x2 rB1))
    (k0_pay12 (View.ld x4 rB2)) (k0_pay13 (View.ld x5 rWt)) (k0_pay14 (View.ld x3 rW2)) rows128 k0_pay15 lane64 colP k0_pay16 k0_pay17

/-- The hidden layer of the whole sentence (row 0), and what the same formula gives in the other rows. -/
def longHid : FVec F S64x1024 .bf16 :=
  k0_pay28 (k0_pay6 (View.ld x0 rH) (View.ld x1 rWa)) (k0_pay7 (View.ld x0 rH) (View.ld x1 rWb))
    (k0_pay8 (View.ld x0 rH) (View.ld x1 rWc)) (k0_pay9 (View.ld x0 rH) (View.ld x1 rWc)) (k0_pay11 (View.ld x2 rB1))

/-- Its label scores, the gold label's lowered by one. -/
def longFeats : FVec F S64x256 .f32 :=
  k0_pay30 (k0_pay6 (View.ld x0 rH) (View.ld x1 rWa)) (k0_pay7 (View.ld x0 rH) (View.ld x1 rWb))
    (k0_pay8 (View.ld x0 rH) (View.ld x1 rWc)) (k0_pay9 (View.ld x0 rH) (View.ld x1 rWc)) (k0_pay11 (View.ld x2 rB1))
    (k0_pay12 (View.ld x4 rB2)) (k0_pay14 (View.ld x3 rW2)) rows64 k0_pay15

/-- Its gold entry kept, zeros elsewhere. -/
def longGold : FVec F S1x64x256 .f32 :=
  k0_pay31 (k0_pay6 (View.ld x0 rH) (View.ld x1 rWa)) (k0_pay7 (View.ld x0 rH) (View.ld x1 rWb))
    (k0_pay8 (View.ld x0 rH) (View.ld x1 rWc)) (k0_pay9 (View.ld x0 rH) (View.ld x1 rWc)) (k0_pay11 (View.ld x2 rB1))
    (k0_pay12 (View.ld x4 rB2)) (k0_pay14 (View.ld x3 rW2)) rows64 k0_pay15

/-- The number the body stores. -/
def result : FVec F S1x1 .f32 :=
  k0_pay1 (k0_pay32 (short x0 x1 x2 x3 x4 x5).1 (longGold x0 x1 x2 x3 x4))
    (k0_pay33 (k0_pay13 (View.ld x5 rWt)) rows64 (short x0 x1 x2 x3 x4 x5).2.1 (longHid x0 x1 x2))
    (k0_pay39 lane64 (chart lane64 (short x0 x1 x2 x3 x4 x5).2.2 (longFeats x0 x1 x2 x3 x4)).1) (View.ld x6 rOut)

/-- The output block after the body: the number stored over the whole block. -/
def outBlock : Vec F S1x1 .f32 := View.canon [⟨rOut, result x0 x1 x2 x3 x4 x5 x6⟩]

end Blocks

end Cert.KernelIdeal.Body

end
-- ==== Proof.IdealFrame.lean ====
/- The kernel's run: the body's triple at its function of the blocks (IdealBody.lean), the pipeline's proof data, and the
   launch, whose final states have the result array at that function and every semaphore counter at zero. -/
module

public import proofs.«01_k».proof.Proof.IdealBody
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The one store covers the output block. -/
theorem store_covers (p : Vec F S1x1 .f32) (y : S1x1.Idx) :
    ∃ pc ∈ ([⟨rOut, p⟩] : List (View.Piece (Elt F) S1x1 .f32)), y ∈ pc.1.set :=
  View.cover_of_tiled [⟨rOut, p⟩] S1x1.size (by rfl) y

set_option maxHeartbeats 2000000 in
/-- The body's triple: given its input blocks and the output block at anything, it leaves the inputs as they were and the
    output block at `outBlock` of them. -/
theorem triple (c : Dev nD) (E : Set ℕ) (arg0 : Memref sig .tc .vmem S64x704 .f32) (harg0 : arg0.IsWhole)
    (arg1 : Memref sig .tc .vmem S2112x1024 .f32) (harg1 : arg1.IsWhole) (arg2 : Memref sig .tc .vmem S1x1024 .f32) (harg2 : arg2.IsWhole)
    (arg3 : Memref sig .tc .vmem S1024x256 .f32) (harg3 : arg3.IsWhole) (arg4 : Memref sig .tc .vmem S1x256 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole)
    (x0 : Vec F S64x704 .f32) (x1 : Vec F S2112x1024 .f32) (x2 : Vec F S1x1024 .f32) (x3 : Vec F S1024x256 .f32)
    (x4 : Vec F S1x256 .f32) (x5 : Vec F S1024x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (outBlock x0 x1 x2 x3 x4 x5 x6)) -∗ K ⟨⟩))
      ⊢ wp frame (wpE (defs₀ (F := F)) Variants.none c none) E
          (cc0__body arg0 harg0 arg1 harg1 arg2 harg2 arg3 harg3 arg4 harg4 arg5 harg5 arg6 harg6 arg7 harg7) K := by
  simp only [cc0__body_eq_skeleton]; unfold cc0__body_skel
  simp only [k0_part2_eq_skeleton, part3_eq, part4_eq]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, Hk⟩
  subst h0 h1 h2 h3 h4 h5 h6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

variable (m : (ℓ : Loc nD τ sig) → Buf (Elt F) ℓ) (ρ : Dev nD → PrngReg)

/-! ## The pipeline's proof data -/

/-- On core `c`: the arrays as the region finds them; after the body each input's buffer at its block and the output's at
    `outBlock` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t
    = outBlock (iblk m c 0 t) (iblk m c 1 t) (iblk m c 2 t) (iblk m c 3 t) (iblk m c 4 t) (iblk m c 5 t) (iblk m c 6 t) := by
  dsimp only [dats]

/-! ## The body at a grid point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point, by its triple: the input memrefs hold their blocks. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_in0 m c), before0_1_of m (dats m 0 c) (A_eq m c 1) (after_in1 m c),
    before0_2_of m (dats m 0 c) (A_eq m c 2) (after_in2 m c), before0_3_of m (dats m 0 c) (A_eq m c 3) (after_in3 m c),
    before0_4_of m (dats m 0 c) (A_eq m c 4) (after_in4 m c), before0_5_of m (dats m 0 c) (A_eq m c 5) (after_in5 m c),
    before0_6_of m (dats m 0 c) (A_eq m c 6) (after_in6 m c)]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple c Set.univ _ _ _ _ _ _ _ _ _ _ _ _ _ _ _ _ (iblk m c 0 t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

/-! ## The launch -/

set_option backward.isDefEq.respectTransparency.types false in
set_option maxHeartbeats 800000 in
/-- Every weakly fair execution terminates with the pipeline's arrays at what the proof data says, the other buffers as the
    region found them, and every semaphore counter at zero. -/
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.KernelIdeal.Body

end
-- ==== Proof.Words.lean ====
/- Index words: the comparisons and selections of small natural numbers held in 32-bit words, as conditions on the numbers. -/
module

public import Idealize.ShloMosaic.PureOps.Ideal
public import Idealize.ShloMosaic.Lib.WordCmp
public import Idealize.ShloMosaic.Lib.Pointwise

@[expose] public section

namespace Cert.Words

open Idealize.ShloMosaic

/-- The bit of a decidable statement. -/
def bit (P : Prop) [Decidable P] : BitVec 1 := if P then 1#1 else 0#1

variable {P Q : Prop} [Decidable P] [Decidable Q]

theorem eq_bit (a b : ℕ) (ha : a < 2 ^ 32) (hb : b < 2 ^ 32) :
    IntOp.cmpi .eq (BitVec.ofNat 32 a) (BitVec.ofNat 32 b) = bit (a = b) := by
  rw [WordCmp.cmpi_eq_eq_toNat, BitVec.toNat_ofNat, BitVec.toNat_ofNat, Nat.mod_eq_of_lt ha, Nat.mod_eq_of_lt hb, bit]
  by_cases h : a = b <;> simp [h]

theorem slt_bit (a b : ℕ) (ha : a < 2 ^ 31) (hb : b < 2 ^ 31) :
    IntOp.cmpi .slt (BitVec.ofNat 32 a) (BitVec.ofNat 32 b) = bit (a < b) := by
  rw [WordCmp.cmpi_slt_ofNat ha hb, bit]
  by_cases h : a < b <;> simp [h]

theorem select_bit {α : Type} (a b : α) : Scalar.select (bit P) a b = if P then a else b := by
  by_cases h : P <;> simp [bit, h, Scalar.select]

theorem andi_bit : IntOp.andi (bit P) (bit Q) = bit (P ∧ Q) := by
  by_cases h : P <;> by_cases h' : Q <;> simp [bit, h, h'] <;> decide

theorem ori_bit : IntOp.ori (bit P) (bit Q) = bit (P ∨ Q) := by
  by_cases h : P <;> by_cases h' : Q <;> simp [bit, h, h'] <;> decide

/-- A bit widened and read as a float is one or zero. -/
theorem float_bit : FloatOps.sitofp (F := Ideal) .f32 (BitVec.setWidth 32 (bit P)) = (((if P then 1 else 0 : ℝ)) : EReal) := by
  by_cases h : P
  · rw [if_pos h, bit, if_pos h]
    show (((BitVec.setWidth 32 1#1).toInt : ℝ) : EReal) = _
    rw [show (BitVec.setWidth 32 1#1).toInt = 1 by decide]; norm_num
  · rw [if_neg h, bit, if_neg h]
    show (((BitVec.setWidth 32 0#1).toInt : ℝ) : EReal) = _
    rw [show (BitVec.setWidth 32 0#1).toInt = 0 by decide]; norm_num

theorem add_word (a b : ℕ) : IntOp.addi (BitVec.ofNat 32 a) (BitVec.ofNat 32 b) = BitVec.ofNat 32 (a + b) :=
  (BitVec.ofNat_add a b).symm

theorem sub_word (a b : ℕ) (h : b ≤ a) : IntOp.subi (BitVec.ofNat 32 a) (BitVec.ofNat 32 b) = BitVec.ofNat 32 (a - b) := by
  show BitVec.ofNat 32 a - BitVec.ofNat 32 b = _
  conv_lhs => rw [show a = (a - b) + b by omega, BitVec.ofNat_add]
  exact BitVec.add_sub_cancel _ _

theorem toInt_word (a : ℕ) (h : a < 2 ^ 31) : (BitVec.ofNat 32 a).toInt = (a : ℤ) := by
  rw [BitVec.toInt_eq_toNat_cond, BitVec.toNat_ofNat]; omega

theorem toNat_word (a : ℕ) (h : a < 2 ^ 32) : (BitVec.ofNat 32 a).toNat = a := by
  rw [BitVec.toNat_ofNat]; omega

/-- A loop counter that steps by one. -/
theorem iv_word (a k : ℕ) : Scf.iv (BitVec.ofNat 32 a) 1#32 k = BitVec.ofNat 32 (a + k) := by
  apply BitVec.eq_of_toNat_eq
  simp [Scf.iv]

/-- A natural number's word as a float is that number. -/
theorem float_word (a : ℕ) (h : a < 2 ^ 31) : FloatOps.sitofp (F := Ideal) .f32 (BitVec.ofNat 32 a) = ((a : ℝ) : EReal) := by
  show (((BitVec.ofNat 32 a).toInt : ℝ) : EReal) = _
  rw [toInt_word a h]; norm_num

end Cert.Words
-- ==== Proof.Spec.lean ====
/- The quantities both programs compute, as plain functions: the hidden layer of every span, its label scores, the gold and tag
   sums, the best parse by span length and start, and the loss. No program is mentioned here. -/
module

public import Idealize.ShloMosaic.PureOps.Ideal

@[expose] public section

noncomputable section

namespace Cert.Span

open Idealize.ShloMosaic
open scoped BigOperators

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two maxima agree when the first's entries are the second's and minus infinities, and the second's all occur in the first. -/
theorem max_eq {m n : ℕ} (f : Fin m → EReal) (g : Fin n → EReal) (h1 : ∀ i, f i = ⊥ ∨ ∃ j, f i = g j) (h2 : ∀ j, ∃ i, g j = f i) :
    Finset.univ.fold max ⊥ f = Finset.univ.fold max ⊥ g := by
  apply le_antisymm
  · rw [Finset.fold_max_le]
    refine ⟨bot_le, fun i _ => ?_⟩
    rcases h1 i with h | ⟨j, h⟩
    · rw [h]; exact bot_le
    · rw [h, Finset.le_fold_max]; exact .inr ⟨j, Finset.mem_univ _, le_rfl⟩
  · rw [Finset.fold_max_le]
    refine ⟨bot_le, fun j _ => ?_⟩
    obtain ⟨i, h⟩ := h2 j
    rw [h, Finset.le_fold_max]; exact .inr ⟨i, Finset.mem_univ _, le_rfl⟩

/-- The sum of the entries before position `j`. -/
def before (x : Fin 64 → ℝ) (j : ℕ) : ℝ := ∑ q : Fin 64, if q.val < j then x q else 0

section Hidden

/-- The first layer's weights in three blocks of 704 rows: for a span's first token, for its last token and for the mean of its tokens.
Only the last block has to be real. -/
structure Weights where
  first : Fin 704 → Fin 1024 → EReal
  last : Fin 704 → Fin 1024 → EReal
  mean : Fin 704 → Fin 1024 → ℝ

/-- An array of 2112 rows holds the three blocks one above the other. -/
structure Blocks (W : Fin 2112 → Fin 1024 → EReal) (w : Weights) : Prop where
  first : ∀ (k : Fin 704) c, W ⟨0 + k.val, by omega⟩ c = w.first k c
  last : ∀ (k : Fin 704) c, W ⟨704 + k.val, by omega⟩ c = w.last k c
  mean : ∀ (k : Fin 704) c, W ⟨1408 + k.val, by omega⟩ c = ((w.mean k c : ℝ) : EReal)

variable (h : Fin 64 → Fin 704 → ℝ) (w : Weights)

/-- The projections of a span's first token, of its last token, and of any token for the mean. -/
def projFirst (i : Fin 64) (c : Fin 1024) : EReal := ∑ k : Fin 704, (h i k : EReal) * w.first k c
def projLast (i : Fin 64) (c : Fin 1024) : EReal := ∑ k : Fin 704, (h i k : EReal) * w.last k c
def projMean (i : Fin 64) (c : Fin 1024) : ℝ := ∑ k : Fin 704, h i k * w.mean k c

/-- The hidden layer of the span from `i` to `e` before the bias. -/
def lin (i e : Fin 64) (c : Fin 1024) : EReal :=
  projFirst h w i c + projLast h w e c
    + ((1 / ((e.val + 1 - i.val : ℕ) : ℝ) * (before (projMean h w · c) (e.val + 1) - before (projMean h w · c) i.val) : ℝ) : EReal)

/-- The hidden layer of the span from `i` to `e`. -/
def hid (b : Fin 1024 → EReal) (i e : Fin 64) (c : Fin 1024) : EReal := max (lin h w i e c + b c) 0

end Hidden

section Labels

variable (hd : Fin 64 → Fin 64 → Fin 1024 → EReal) (w2 : Fin 1024 → Fin 256 → EReal) (b2 : Fin 256 → EReal)

/-- The label scores of a span. -/
def lab (i e : Fin 64) (l : Fin 256) : EReal := (∑ c : Fin 1024, hd i e c * w2 c l) + b2 l

/-- The label scores, one taken off at the gold label of the spans that end at the last token. -/
def aug (i e : Fin 64) (l : Fin 256) : EReal :=
  if i.val < 63 ∧ e.val = 63 ∧ l.val = 0 then lab hd w2 b2 i e l - 1 else lab hd w2 b2 i e l

/-- A span's best label score. -/
def best (i e : Fin 64) : EReal := Finset.univ.fold max ⊥ (aug hd w2 b2 i e)

/-- The best label score of the span of `n` tokens that starts at `i` (zero where there is no such span). -/
def score (n i : ℕ) : EReal := if h : 1 ≤ n ∧ i + n ≤ 64 then best hd w2 b2 ⟨i, by omega⟩ ⟨i + n - 1, by omega⟩ else 0

/-- The gold score of the span that starts at `i` and ends at the last token. -/
def goldAt (i : ℕ) : EReal := if h : i < 64 then aug hd w2 b2 ⟨i, h⟩ 63 0 else 0

/-- The gold tag score of the span that starts at `i` and ends at the last token. -/
def tagAt (wt : Fin 1024 → EReal) (i : ℕ) : EReal := if h : i < 64 then ∑ c : Fin 1024, hd ⟨i, h⟩ 63 c * wt c else 0

end Labels

/-- The best parse of the span of `n` tokens that starts at `i`: nothing for one token, otherwise the span's score and the best
way to split it in two. -/
def parse (s : ℕ → ℕ → EReal) : ℕ → ℕ → EReal
  | n, i => if n ≤ 1 then 0 else s n i + (Finset.univ : Finset (Fin (n - 1))).fold max ⊥ fun k =>
      parse s (k.val + 1) i + parse s (n - 1 - k.val) (i + k.val + 1)
termination_by n => n
decreasing_by all_goals omega

theorem parse_one (s : ℕ → ℕ → EReal) (i : ℕ) : parse s 1 i = 0 := by rw [parse]; simp

theorem parse_step (s : ℕ → ℕ → EReal) (n i : ℕ) (hn : 2 ≤ n) : parse s n i = s n i + (Finset.univ : Finset (Fin (n - 1))).fold max ⊥ fun k =>
    parse s (k.val + 1) i + parse s (n - 1 - k.val) (i + k.val + 1) := by
  rw [parse, if_neg (by omega)]

/-- The loss from the best parse's score, the gold score, the gold tag scores' sum and the tag bias. -/
def loss (pred gold tag bias : EReal) : EReal :=
  (0 - (tag * ((1 / 63 : ℝ) : EReal) + bias)) + max (pred - gold) 0 * ((1 / 63 : ℝ) : EReal)

/-- The loss from the hidden layer, the label weights and biases, the tag weights and the tag bias. -/
def total (hd : Fin 64 → Fin 64 → Fin 1024 → EReal) (w2 : Fin 1024 → Fin 256 → EReal) (b2 : Fin 256 → EReal) (wt : Fin 1024 → EReal)
    (bt : EReal) : EReal :=
  loss (parse (score hd w2 b2) 64 0) (∑ i ∈ Finset.range 63, goldAt hd w2 b2 i) (∑ i ∈ Finset.range 63, tagAt hd wt i) bt

end Cert.Span

end
-- ==== Proof.IdealHidden.lean ====
/- The kernel's hidden layer at a row: the row's weights pick the first token, the last token and two prefix sums, so it is the hidden
   layer of the row's span. -/
module

public import proofs.«01_k».proof.Proof.IdealBody
public import proofs.«01_k».proof.Proof.Words
public import proofs.«01_k».proof.Proof.Spec
public import Idealize.ShloMosaic.Lib.Pointwise

@[expose] public section

set_option maxRecDepth 8192

noncomputable section

namespace Cert.KernelIdeal.Body

open Cert.KernelIdeal Cert.KernelIdeal.Gen Cert.Words Cert.Span
open Idealize.ShloMosaic

/-! ## Row words -/

theorem row_mod : ∀ r : Fin 128, IntOp.andi (BitVec.ofNat 32 r) 63#32 = BitVec.ofNat 32 (r % 64) := by decide +kernel

theorem row_half : ∀ r : Fin 128,
    IntOp.muli (31#32) (BitVec.setWidth 32 (IntOp.cmpi CmpIPredicate.sge (BitVec.ofNat 32 ↑r) 64#32)) = BitVec.ofNat 32 (31 * (r / 64)) := by
  decide +kernel

theorem trip_len (p : ℕ) : Scalar.addi (Scf.iv 0#32 1#32 p) 2#32 = BitVec.ofNat 32 (p + 2) := by
  rw [show (0#32 : BitVec 32) = BitVec.ofNat 32 0 from rfl, iv_word, Nat.zero_add]
  exact add_word p 2

theorem trips1 : k0_t1_loop.trips = 31 := by decide
theorem trips2 : k0_t2_loop.trips = 63 := by decide

/-! ## The stacked table -/

/-- Last-token projections, prefix sums, first-token projections, one above the other. -/
def stack (a b : Fin 64 → EReal) (m : Fin 64 → ℝ) (r : ℕ) : EReal :=
  if h : r < 64 then b ⟨r, h⟩ else if r - 64 < 128 then ((before m (r - 64) : ℝ) : EReal) else if h : r - 64 - 128 < 64 then a ⟨r - 64 - 128, h⟩ else 0

section Tables

variable {x0 : Vec Ideal S64x704 .f32} {xa xb xc : Vec Ideal S704x1024 .f32} {h : Fin 64 → Fin 704 → ℝ} {w : Weights}

/-- The blocks hold real token features, and weights of which those for the mean are real. -/
structure Reals (x0 : Vec Ideal S64x704 .f32) (xa xb xc : Vec Ideal S704x1024 .f32) (h : Fin 64 → Fin 704 → ℝ) (w : Weights) :
    Prop where
  tokens : ∀ i k, x0 (ix2 i k) = ((h i k : ℝ) : EReal)
  first : ∀ (k : Fin 704) c, xa (ix2 k c) = w.first k c
  last : ∀ (k : Fin 704) c, xb (ix2 k c) = w.last k c
  mean : ∀ (k : Fin 704) c, xc (ix2 k c) = ((w.mean k c : ℝ) : EReal)

variable (R : Reals x0 xa xb xc h w)
include R

theorem first_table (i : Fin 64) (c : Fin 1024) : k0_pay6 x0 xa (ix2 i c) = projFirst h w i c := by
  unfold k0_pay6 k0_pay5
  pointwise
  rw [projFirst]
  exact Finset.sum_congr rfl fun k _ => by rw [R.tokens, R.first]

theorem last_table (i : Fin 64) (c : Fin 1024) : k0_pay7 x0 xb (ix2 i c) = projLast h w i c := by
  unfold k0_pay7 k0_pay5
  pointwise
  rw [projLast]
  exact Finset.sum_congr rfl fun k _ => by rw [R.tokens, R.last]

theorem sum_table (r : Fin 128) (c : Fin 1024) : k0_pay8 x0 xc (ix2 r c) = ((before (projMean h w · c) r.val : ℝ) : EReal) := by
  unfold k0_pay8 k0_pay5
  pointwise
  rw [before, coe_sum]
  refine Finset.sum_congr rfl fun q _ => ?_
  rw [slt_bit _ _ (by omega) (by omega), float_bit]
  have e : (∑ k : Fin 704, x0 (ix2 q k) * xc (ix2 k c)) = ((projMean h w q c : ℝ) : EReal) := by
    rw [projMean, coe_sum]
    exact Finset.sum_congr rfl fun k _ => by rw [R.tokens, R.mean, EReal.coe_mul]
  rw [e, ← EReal.coe_mul]
  by_cases hq : q.val < r.val <;> simp [hq]

theorem stack_table (r : Fin 256) (c : Fin 1024) : k0_pay10 x0 xa xb xc (ix2 r c)
    = stack (projFirst h w · c) (projLast h w · c) (projMean h w · c) r.val := by
  have h6 := first_table R; have h7 := last_table R; have h8 := sum_table R
  unfold k0_pay10
  generalize k0_pay6 x0 xa = A at h6 ⊢
  generalize k0_pay7 x0 xb = B at h7 ⊢
  generalize k0_pay8 x0 xc = M at h8 ⊢
  pointwise
  unfold stack
  by_cases h1 : r.val < 64
  · rw [dif_pos h1, dif_pos h1, h7]
  · rw [dif_neg h1, dif_neg h1]
    by_cases h2 : r.val - 64 < 128
    · rw [dif_pos h2, if_pos h2, h8]
    · rw [dif_neg h2, if_neg h2, dif_pos (by omega), h6]

end Tables

/-! ## The rows of the first loop -/

/-- The span length of row `r` in trip `p`. -/
abbrev rowLen (p : ℕ) (r : ℕ) : ℕ := p + 2 + 31 * (r / 64)

/-- A row's weights pick two entries and a multiple of the difference of two more, real, ones. -/
theorem sum_weights (s : ℕ → EReal) (v sc sd : ℝ) (a b c d : ℕ) (ha : a < 256) (hb : b < 256) (hc : c < 256) (hd : d < 256)
    (hac : a < d) (hcd : d < c) (hcb : c < b) (ec : s c = (sc : EReal)) (ed : s d = (sd : EReal)) :
    ∑ x : Fin 256, ((((if x.val = a then 1 else 0 : ℝ) : EReal) + ((if x.val = b then 1 else 0 : ℝ) : EReal))
        + (v : EReal) * (((if x.val = c then 1 else 0 : ℝ) : EReal) - ((if x.val = d then 1 else 0 : ℝ) : EReal))) * s x.val
      = s b + s a + ((v * (sc - sd) : ℝ) : EReal) := by
  have pick : ∀ (n : ℕ) (hn : n < 256) (y : EReal), (∑ x : Fin 256, if x.val = n then y else 0) = y := fun n hn y => by
    rw [Finset.sum_eq_single (⟨n, hn⟩ : Fin 256)]
    · simp
    · intro x _ hx
      rw [if_neg (fun e => hx (Fin.ext e))]
    · simp
  have e : ((v * (sc - sd) : ℝ) : EReal) = ((v * sc : ℝ) : EReal) + ((-v * sd : ℝ) : EReal) := by
    rw [← EReal.coe_add]; congr 1; ring
  rw [e, ← add_assoc]
  conv_rhs => rw [← pick a ha (s a), ← pick b hb (s b), ← pick c hc ((v * sc : ℝ) : EReal), ← pick d hd ((-v * sd : ℝ) : EReal),
    ← Finset.sum_add_distrib, ← Finset.sum_add_distrib, ← Finset.sum_add_distrib]
  refine Finset.sum_congr rfl fun x _ => ?_
  rw [← EReal.coe_sub, ← EReal.coe_mul, ← EReal.coe_add, ← EReal.coe_add]
  by_cases h1 : x.val = a
  · rw [h1]; simp [show a ≠ b by omega, show a ≠ c by omega, show a ≠ d by omega]
  by_cases h2 : x.val = b
  · rw [h2]; simp [show b ≠ a by omega, show b ≠ c by omega, show b ≠ d by omega]
  by_cases h3 : x.val = c
  · rw [h3, ec, ← EReal.coe_mul]; simp [show c ≠ a by omega, show c ≠ b by omega, show c ≠ d by omega]
  by_cases h4 : x.val = d
  · rw [h4, ed, ← EReal.coe_mul]; simp [show d ≠ a by omega, show d ≠ b by omega, show d ≠ c by omega]
  simp [h1, h2, h3, h4]

/-- One over the row's span length, as the kernel forms it. -/
theorem row_inv (p r : ℕ) (hr : r < 128) : (if r < 64 then Ideal.div 1 (((((p + 2 : ℕ) : ℤ) : ℝ)) : EReal)
      else Ideal.div 1 ((((((p + 2 : ℕ) : ℤ) : ℝ)) : EReal) + Ideal.ofBits FTy.f32 1106771968#32))
    = ((1 / ((rowLen p r : ℕ) : ℝ) : ℝ) : EReal) := by
  have h31 : Ideal.ofBits FTy.f32 1106771968#32 = ((31 : ℝ) : EReal) := by
    simp [Ideal.ofBits, Ideal.ieee, -EReal.coe_mul]; norm_num
  have key : ∀ n : ℕ, 0 < n → Ideal.div 1 ((n : ℝ) : EReal) = ((1 / (n : ℝ) : ℝ) : EReal) := fun n hn => by
    rw [Ideal.div_coe (by positivity), one_mul]
  by_cases h : r < 64
  · rw [if_pos h, rowLen, Nat.div_eq_of_lt h, Int.cast_natCast]
    exact key (p + 2) (by omega)
  · rw [if_neg h, h31, Int.cast_natCast, ← EReal.coe_add, rowLen, show r / 64 = 1 by omega]
    have := key (p + 2 + 31 * 1) (by omega)
    push_cast at this ⊢
    rw [← this]

section Rows

variable {M : FVec Ideal S256x1024 .bf16} {b : FVec Ideal S1x1024 .f32} {h : Fin 64 → Fin 704 → ℝ} {w : Weights}

theorem hidden_row (hM : ∀ r c, M (ix2 r c) = stack (projFirst h w · c) (projLast h w · c) (projMean h w · c) r.val)
    (p : Fin k0_t1_loop.trips) (r : Fin 128) (c : Fin 1024) (hin : r.val % 64 + rowLen p r ≤ 64) :
    k0_pay2 M b rows128 colP k0_pay16 (k0_pay18 k0_pay17) (k0_pay19 colP k0_pay16) (k0_pay20 colP k0_pay16) 0#32 1#32 p (ix2 r c)
      = hid h w (fun c => b (ix2 0 c)) ⟨r.val % 64, by omega⟩ ⟨r.val % 64 + rowLen p r - 1, by omega⟩ c := by
  unfold k0_pay2 k0_pay18 k0_pay19 k0_pay20 k0_pay16 k0_pay17
  pointwise
  rw [row_mod, row_half, trip_len]
  have hp : p.val < 31 := trips1 ▸ p.isLt
  have hl : rowLen p r = p.val + 2 + 31 * (r.val / 64) := rfl
  have hl2 : 2 ≤ rowLen p r := by omega
  simp (disch := omega) only [hM, add_word, sub_word, eq_bit, slt_bit, andi_bit, float_bit, select_bit, toInt_word]
  rw [row_inv p r r.isLt]
  have hs := sum_weights (stack (projFirst h w · c) (projLast h w · c) (projMean h w · c)) (1 / ((rowLen p r : ℕ) : ℝ))
    (before (projMean h w · c) (r.val % 64 + rowLen p r)) (before (projMean h w · c) (r.val % 64))
    (r.val % 64 + rowLen p r - 1) (192 + r.val % 64) (64 + r.val % 64 + rowLen p r) (64 + r.val % 64)
    (by omega) (by omega) (by omega) (by omega) (by omega) (by omega) (by omega)
    (by rw [stack, dif_neg (by omega), if_pos (by omega), show 64 + r.val % 64 + rowLen p r - 64 = r.val % 64 + rowLen p r by omega])
    (by rw [stack, dif_neg (by omega), if_pos (by omega), show 64 + r.val % 64 - 64 = r.val % 64 by omega])
  have hlt : r.val % 64 + (p.val + 2 + 31 * (r.val / 64)) - 1 < 64 := by omega
  simp only [hlt, and_true]
  rw [hid]
  refine congrArg₂ max (congrArg₂ (· + ·) (hs.trans ?_) rfl) rfl
  rw [lin]
  simp (disch := omega) only [stack, dif_pos, dif_neg, if_pos, if_neg]
  have e1 : 192 + r.val % 64 - 64 - 128 = r.val % 64 := by omega
  have e2 : r.val % 64 + rowLen p r - 1 + 1 = r.val % 64 + rowLen p r := by omega
  have e4 : r.val % 64 + rowLen p r - r.val % 64 = rowLen p r := by omega
  simp only [e1, e2, e4]

end Rows

end Cert.KernelIdeal.Body

end
-- ==== Proof.IdealTrip.lean ====
/- One trip of the kernel's first loop: what it adds to the gold score and to the tag score, and which lanes of the span scores it
   writes. -/
module

public import proofs.«01_k».proof.Proof.IdealHidden

@[expose] public section

set_option maxRecDepth 8192

noncomputable section

namespace Cert.KernelIdeal.Body

open Cert.KernelIdeal Cert.KernelIdeal.Gen Cert.Words Cert.Span
open Idealize.ShloMosaic

theorem neg_inf : Ideal.ofBits FTy.f32 4286578688#32 = ⊥ := by simp [Ideal.ofBits, Ideal.ieee]

/-- A sum in which two positions count. -/
theorem sum_two {n : ℕ} (f : Fin n → EReal) (a b : Fin n) (hab : a ≠ b) :
    (∑ r : Fin n, if r = a ∨ r = b then f r else 0) = f a + f b := by
  have e : ∀ r, (if r = a ∨ r = b then f r else 0) = (if r = a then f r else 0) + (if r = b then f r else 0) := fun r => by
    by_cases h1 : r = a
    · subst h1; simp [hab]
    · by_cases h2 : r = b
      · subst h2; simp [h1]
      · simp [h1, h2]
  rw [Finset.sum_congr rfl fun r _ => e r, Finset.sum_add_distrib, Finset.sum_ite_eq' Finset.univ a, Finset.sum_ite_eq' Finset.univ b]
  simp

/-- The label scores' sum over one row in which only label zero counts. -/
theorem sum_head (P : Prop) [Decidable P] (f : Fin 256 → EReal) :
    (∑ l : Fin 256, if P ∧ l.val = 0 then f l else 0) = if P then f 0 else 0 := by
  rw [Finset.sum_eq_single (0 : Fin 256)]
  · by_cases hP : P <;> simp [hP]
  · intro l _ hl
    rw [if_neg]
    rintro ⟨_, h0⟩
    exact hl (Fin.ext h0)
  · simp

section Trip

variable (hd : Fin 64 → Fin 64 → Fin 1024 → EReal) (w2 : Fin 1024 → Fin 256 → EReal) (b2 : Fin 256 → EReal) (wt : Fin 1024 → EReal)

/-- Row `r` of trip `p` lies inside the sentence. -/
abbrev InRow (p r : ℕ) : Prop := r % 64 + (p + 2 + 31 * (r / 64)) ≤ 64

/-- The two rows of trip `p` whose spans end at the last token. -/
abbrev LastRow (p r : ℕ) : Prop := r = 62 - p ∨ r = 95 - p

theorem label_row {M : FVec Ideal S256x1024 .bf16} {v18 : FVec Ideal S1x1024 .f32} {v20 : FVec Ideal S1x256 .f32} {v25 : FVec Ideal S1024x256 .bf16}
    {v27 : IVec S128x1 32} {v32 : IVec S128x256 32} {v34 v39 : IVec S128x1 32} {v45 v51 : FVec Ideal S128x256 .f32} {c0 c1 : BitVec 32}
    (p : Fin k0_t1_loop.trips) (r : Fin 128) (l : Fin 256) :
    k0_pay3 M v18 v20 v25 v27 v32 v34 v39 v45 v51 c0 c1 p (ix2 r l)
      = (∑ c : Fin 1024, k0_pay2 M v18 v27 v32 v34 v39 v45 v51 c0 c1 p (ix2 r c) * v25 (ix2 c l)) + v20 (ix2 0 l) := by
  unfold k0_pay3
  pointwise

theorem row_word (p : Fin k0_t1_loop.trips) (r : Fin 128) : k0_pay4 0#32 1#32 p (ix2 r 0) = BitVec.ofNat 32 (62 - p.val) := by
  have hp : p.val < 31 := trips1 ▸ p.isLt
  unfold k0_pay4
  pointwise
  rw [trip_len]
  exact (sub_word 64 (p.val + 2) (by omega)).trans (congrArg _ (by omega))

/-- The mask of the rows whose spans end at the last token. -/
theorem last_row (p : Fin k0_t1_loop.trips) (r : Fin 128) :
    k0_pay22 rows128 (BitVec.ofNat 32 (p.val + 2)) (k0_pay4 0#32 1#32 p) (ix2 r 0) = bit (LastRow p r) := by
  have hp : p.val < 31 := trips1 ▸ p.isLt
  have hw := row_word p r
  unfold k0_pay22
  generalize k0_pay4 0#32 1#32 p = v at hw
  pointwise
  rw [hw, show Scalar.subi 97#32 (BitVec.ofNat 32 (p.val + 2)) = BitVec.ofNat 32 (95 - p.val) from
    (sub_word 97 (p.val + 2) (by omega)).trans (congrArg _ (by omega)), eq_bit _ _ (by omega) (by omega), eq_bit _ _ (by omega) (by omega), ori_bit]

/-- The mask of their gold labels. -/
theorem gold_mask (p : Fin k0_t1_loop.trips) (r : Fin 128) (l : Fin 256) :
    k0_pay23 rows128 k0_pay15 (BitVec.ofNat 32 (p.val + 2)) (k0_pay4 0#32 1#32 p) (ix2 r l) = bit (LastRow p r ∧ l.val = 0) := by
  have hw := last_row p r
  unfold k0_pay23 k0_pay15
  generalize k0_pay22 rows128 (BitVec.ofNat 32 (p.val + 2)) (k0_pay4 0#32 1#32 p) = v at hw
  pointwise
  rw [hw, show (0#32 : BitVec 32) = BitVec.ofNat 32 0 from rfl, eq_bit _ _ (by omega) (by omega), andi_bit]

variable {H : FVec Ideal S128x1024 .bf16} {G : FVec Ideal S128x256 .f32} (p : Fin k0_t1_loop.trips)

/-- The label scores of a row inside the sentence, the gold label's lowered by one. -/
theorem aug_row (hG : ∀ (r : Fin 128) (l : Fin 256) (hin : InRow p r), G (ix2 r l)
      = lab hd w2 b2 ⟨r.val % 64, by omega⟩ ⟨r.val % 64 + rowLen p r - 1, by have : rowLen p r = p.val + 2 + 31 * (r.val / 64) := rfl; omega⟩ l)
    (r : Fin 128) (l : Fin 256) (hin : InRow p r) :
    k0_pay24 rows128 k0_pay15 (BitVec.ofNat 32 (p.val + 2)) G (k0_pay4 0#32 1#32 p) (ix2 r l)
      = aug hd w2 b2 ⟨r.val % 64, by omega⟩ ⟨r.val % 64 + rowLen p r - 1, by have : rowLen p r = p.val + 2 + 31 * (r.val / 64) := rfl; omega⟩ l := by
  have hp : p.val < 31 := trips1 ▸ p.isLt
  have hw := gold_mask p r l
  unfold k0_pay24
  generalize k0_pay23 rows128 k0_pay15 (BitVec.ofNat 32 (p.val + 2)) (k0_pay4 0#32 1#32 p) = v at hw
  pointwise
  rw [hw, hG r l hin, float_bit, aug]
  have hl : rowLen p r = p.val + 2 + 31 * (r.val / 64) := rfl
  have iff : (LastRow p r ∧ l.val = 0) ↔ (r.val % 64 < 63 ∧ r.val % 64 + rowLen p r - 1 = 63 ∧ l.val = 0) := by omega
  by_cases hc : LastRow p r ∧ l.val = 0
  · rw [if_pos hc, if_pos (iff.mp hc), EReal.coe_one]
  · rw [if_neg hc, if_neg (fun h => hc (iff.mpr h)), EReal.coe_zero, sub_zero]

/-- The rows that end at the last token. -/
def rowA (p : Fin k0_t1_loop.trips) : Fin 128 := ⟨62 - p.val, by omega⟩
def rowB (p : Fin k0_t1_loop.trips) : Fin 128 := ⟨95 - p.val, by omega⟩

theorem last_iff (r : Fin 128) : LastRow p r ↔ r = rowA p ∨ r = rowB p := by
  simp only [LastRow, rowA, rowB, Fin.ext_iff]

theorem rowA_ne_rowB : rowA p ≠ rowB p := by
  have hp : p.val < 31 := trips1 ▸ p.isLt
  simp only [rowA, rowB, ne_eq, Fin.ext_iff]
  omega

/-- The trip's two gold scores. -/
theorem gold_step (hG : ∀ (r : Fin 128) (l : Fin 256) (hin : InRow p r), G (ix2 r l)
      = lab hd w2 b2 ⟨r.val % 64, by omega⟩ ⟨r.val % 64 + rowLen p r - 1, by have : rowLen p r = p.val + 2 + 31 * (r.val / 64) := rfl; omega⟩ l)
    (acc : Ideal .f32) :
    k0_pay25 rows128 k0_pay15 acc (BitVec.ofNat 32 (p.val + 2)) G (k0_pay4 0#32 1#32 p)
      = acc + (goldAt hd w2 b2 (62 - p.val) + goldAt hd w2 b2 (31 - p.val)) := by
  have hp : p.val < 31 := trips1 ▸ p.isLt
  have hm := gold_mask p
  have ha := aug_row hd w2 b2 p hG
  unfold k0_pay25
  generalize k0_pay23 rows128 k0_pay15 (BitVec.ofNat 32 (p.val + 2)) (k0_pay4 0#32 1#32 p) = v at hm
  generalize k0_pay24 rows128 k0_pay15 (BitVec.ofNat 32 (p.val + 2)) G (k0_pay4 0#32 1#32 p) = u at ha
  pointwise
  congr 1
  have e : ∀ r : Fin 128, (∑ l : Fin 256, Scalar.select (v (ix2 r l)) (u (ix2 r l)) 0) = if r = rowA p ∨ r = rowB p then u (ix2 r 0) else 0 := fun r => by
    rw [← if_congr (last_iff p r) rfl rfl, ← sum_head (LastRow p r) fun l => u (ix2 r l)]
    exact Finset.sum_congr rfl fun l _ => by rw [hm, select_bit]
  rw [Finset.sum_congr rfl fun r _ => e r, sum_two _ _ _ (rowA_ne_rowB p)]
  rw [ha (rowA p) 0 (by simp only [InRow, rowA]; omega), ha (rowB p) 0 (by simp only [InRow, rowB]; omega), goldAt, goldAt, dif_pos (by omega),
    dif_pos (by omega)]
  have ea : (62 - p.val) % 64 = 62 - p.val := by omega
  have eb : (95 - p.val) % 64 = 31 - p.val := by omega
  have ec : 62 - p.val + rowLen p (62 - p.val) - 1 = 63 := by
    have : rowLen p (62 - p.val) = p.val + 2 + 31 * ((62 - p.val) / 64) := rfl
    omega
  have ed : 31 - p.val + rowLen p (95 - p.val) - 1 = 63 := by
    have : rowLen p (95 - p.val) = p.val + 2 + 31 * ((95 - p.val) / 64) := rfl
    omega
  simp only [rowA, rowB, ea, eb, ec, ed]
  rfl

/-- The trip's two gold tag scores. -/
theorem tag_step (hH : ∀ (r : Fin 128) (c : Fin 1024) (hin : InRow p r), H (ix2 r c)
      = hd ⟨r.val % 64, by omega⟩ ⟨r.val % 64 + rowLen p r - 1, by have : rowLen p r = p.val + 2 + 31 * (r.val / 64) := rfl; omega⟩ c)
    {v23 : FVec Ideal S1024x1 .bf16} (ht : ∀ c, v23 (ix2 c 0) = wt c) (acc : Ideal .f32) :
    k0_pay27 v23 rows128 acc (BitVec.ofNat 32 (p.val + 2)) H (k0_pay4 0#32 1#32 p)
      = acc + (tagAt hd wt (62 - p.val) + tagAt hd wt (31 - p.val)) := by
  have hp : p.val < 31 := trips1 ▸ p.isLt
  have hm := last_row p
  unfold k0_pay27
  generalize k0_pay22 rows128 (BitVec.ofNat 32 (p.val + 2)) (k0_pay4 0#32 1#32 p) = v at hm
  pointwise
  congr 1
  have e : ∀ r : Fin 128, Scalar.select (v (ix2 r 0)) (∑ c, H (ix2 r c) * v23 (ix2 c 0)) 0
      = if r = rowA p ∨ r = rowB p then ∑ c, H (ix2 r c) * wt c else 0 := fun r => by
    rw [← if_congr (last_iff p r) rfl rfl, hm, select_bit]
    simp only [ht]
  simp only [e, Finset.univ_unique, Finset.sum_singleton]
  rw [sum_two _ _ _ (rowA_ne_rowB p), tagAt, tagAt, dif_pos (by omega), dif_pos (by omega)]
  have ea : (62 - p.val) % 64 = 62 - p.val := by omega
  have eb : (95 - p.val) % 64 = 31 - p.val := by omega
  have ec : 62 - p.val + rowLen p (62 - p.val) - 1 = 63 := by
    have : rowLen p (62 - p.val) = p.val + 2 + 31 * ((62 - p.val) / 64) := rfl
    omega
  have ed : 31 - p.val + rowLen p (95 - p.val) - 1 = 63 := by
    have : rowLen p (95 - p.val) = p.val + 2 + 31 * ((95 - p.val) / 64) := rfl
    omega
  congr 1
  · refine Finset.sum_congr rfl fun c _ => ?_
    rw [hH (rowA p) c (by simp only [InRow, rowA]; omega)]
    simp only [rowA, ea, ec]
    rfl
  · refine Finset.sum_congr rfl fun c _ => ?_
    rw [hH (rowB p) c (by simp only [InRow, rowB]; omega)]
    simp only [rowB, eb, ed]
    rfl

/-- The two lanes of span scores the trip writes; the rest stays. -/
theorem score_step (hG : ∀ (r : Fin 128) (l : Fin 256) (hin : InRow p r), G (ix2 r l)
      = lab hd w2 b2 ⟨r.val % 64, by omega⟩ ⟨r.val % 64 + rowLen p r - 1, by have : rowLen p r = p.val + 2 + 31 * (r.val / 64) := rfl; omega⟩ l)
    (acc : FVec Ideal S64x128 .f32) (i : Fin 64) (j : Fin 128) :
    (i.val + j.val ≤ 64 → j.val = p.val + 2 ∨ j.val = p.val + 33 →
      k0_pay26 rows128 k0_pay15 lane64 acc (BitVec.ofNat 32 (p.val + 2)) G (k0_pay4 0#32 1#32 p) (ix2 i j) = score hd w2 b2 j i)
    ∧ (j.val ≠ p.val + 2 → j.val ≠ p.val + 33 →
      k0_pay26 rows128 k0_pay15 lane64 acc (BitVec.ofNat 32 (p.val + 2)) G (k0_pay4 0#32 1#32 p) (ix2 i j) = acc (ix2 i j)) := by
  have hp : p.val < 31 := trips1 ▸ p.isLt
  have ha := aug_row hd w2 b2 p hG
  unfold k0_pay26
  generalize k0_pay24 rows128 k0_pay15 (BitVec.ofNat 32 (p.val + 2)) G (k0_pay4 0#32 1#32 p) = u at ha
  pointwise
  rw [show Scalar.addi (BitVec.ofNat 32 (p.val + 2)) 31#32 = BitVec.ofNat 32 (p.val + 33) from add_word (p.val + 2) 31,
    eq_bit _ _ (by omega) (by omega), eq_bit _ _ (by omega) (by omega), select_bit, select_bit, neg_inf]
  constructor
  · intro hij hj
    rw [score, dif_pos (by omega)]
    rcases hj with hj | hj
    · rw [if_neg (by omega), if_pos hj, best]
      refine Finset.fold_congr fun l _ => ?_
      have hl : rowLen p i.val = p.val + 2 + 31 * (i.val / 64) := rfl
      have e1 : i.val % 64 = i.val := by omega
      have e2 : i.val + rowLen p i.val - 1 = i.val + j.val - 1 := by omega
      have := ha ⟨i.val, by omega⟩ l (by simp only [InRow]; omega)
      simp only [e1, e2] at this
      exact this
    · rw [if_pos hj, best]
      refine Finset.fold_congr fun l _ => ?_
      have hl : rowLen p (64 + i.val) = p.val + 2 + 31 * ((64 + i.val) / 64) := rfl
      have e1 : (64 + i.val) % 64 = i.val := by omega
      have e2 : i.val + rowLen p (64 + i.val) - 1 = i.val + j.val - 1 := by omega
      have := ha ⟨64 + i.val, by omega⟩ l (by simp only [InRow]; omega)
      simp only [e1, e2] at this
      exact this
  · intro h1 h2
    rw [if_neg h2, if_neg h1]

end Trip

end Cert.KernelIdeal.Body

end
-- ==== Proof.IdealLoops.lean ====
/- The kernel's first loop as a whole, and the span of the whole sentence, which the kernel computes apart: gold score, tag score and
   the table of span scores. -/
module

public import proofs.«01_k».proof.Proof.IdealTrip

@[expose] public section

set_option maxRecDepth 8192

noncomputable section

namespace Cert.KernelIdeal.Body

open Cert.KernelIdeal Cert.KernelIdeal.Gen Cert.Words Cert.Span
open Idealize.ShloMosaic

/-- What holds at the start of a loop and is carried through every trip holds at its end. -/
theorem fold_carry {n N : ℕ} (hN : n = N) {σ : Type} (g : Fin n → σ → σ) (init : σ) (I : ℕ → σ → Prop) (h0 : I 0 init)
    (hs : ∀ (k : Fin n) s, I k.val s → I (k.val + 1) (g k s)) : I N (Scf.fold g init) := by
  subst hN
  rw [Scf.fold_eq]
  induction n with
  | zero => simpa using h0
  | succ n ih =>
    rw [List.finRange_succ_last, List.foldl_append, List.foldl_map]
    exact hs (Fin.last n) _ (ih (fun k => g k.castSucc) (fun k s h => hs k.castSucc s h))

/-- The starts 62, 31; 61, 30; …; 32, 1 and last 0 are the starts 0 to 62. -/
theorem sum_starts (g : ℕ → EReal) : (∑ p ∈ Finset.range 31, (g (62 - p) + g (31 - p))) + g 0 = ∑ i ∈ Finset.range 63, g i := by
  have h1 : ∑ p ∈ Finset.range 31, g (62 - p) = ∑ j ∈ Finset.range 31, g (32 + j) := by
    rw [← Finset.sum_range_reflect (fun j => g (32 + j)) 31]
    refine Finset.sum_congr rfl fun p hp => ?_
    have := Finset.mem_range.mp hp
    congr 1
    omega
  have h2 : ∑ p ∈ Finset.range 31, g (31 - p) = ∑ j ∈ Finset.range 31, g (j + 1) := by
    rw [← Finset.sum_range_reflect (fun j => g (j + 1)) 31]
    refine Finset.sum_congr rfl fun p hp => ?_
    have := Finset.mem_range.mp hp
    congr 1
    omega
  rw [Finset.sum_add_distrib, h1, h2, add_assoc, ← Finset.sum_range_succ', add_comm (∑ j ∈ Finset.range 31, g (32 + j))]
  exact (Finset.sum_range_add g 32 31).symm

section Loop

variable {h : Fin 64 → Fin 704 → ℝ} {w : Weights} {M : FVec Ideal S256x1024 .bf16} {b : FVec Ideal S1x1024 .f32}
  {v20 : FVec Ideal S1x256 .f32} {v23 : FVec Ideal S1024x1 .bf16} {v25 : FVec Ideal S1024x256 .bf16}

/-- The hidden layer, label weights, label biases and tag weights the blocks hold. -/
abbrev hidOf (h : Fin 64 → Fin 704 → ℝ) (w : Weights) (b : FVec Ideal S1x1024 .f32) : Fin 64 → Fin 64 → Fin 1024 → EReal :=
  hid h w (fun c => b (ix2 0 c))
abbrev w2Of (v25 : FVec Ideal S1024x256 .bf16) : Fin 1024 → Fin 256 → EReal := fun c l => v25 (ix2 c l)
abbrev b2Of (v20 : FVec Ideal S1x256 .f32) : Fin 256 → EReal := fun l => v20 (ix2 0 l)
abbrev wtOf (v23 : FVec Ideal S1024x1 .bf16) : Fin 1024 → EReal := fun c => v23 (ix2 c 0)

/-- What the first loop holds after `n` trips. -/
def Done (h : Fin 64 → Fin 704 → ℝ) (w : Weights) (b : FVec Ideal S1x1024 .f32) (v20 : FVec Ideal S1x256 .f32)
    (v23 : FVec Ideal S1024x1 .bf16) (v25 : FVec Ideal S1024x256 .bf16) (n : ℕ) (s : Ideal .f32 × Ideal .f32 × FVec Ideal S64x128 .f32) : Prop :=
  s.1 = ∑ p ∈ Finset.range n, (goldAt (hidOf h w b) (w2Of v25) (b2Of v20) (62 - p) + goldAt (hidOf h w b) (w2Of v25) (b2Of v20) (31 - p))
  ∧ s.2.1 = ∑ p ∈ Finset.range n, (tagAt (hidOf h w b) (wtOf v23) (62 - p) + tagAt (hidOf h w b) (wtOf v23) (31 - p))
  ∧ ∀ (i : Fin 64) (j : Fin 128), i.val + j.val ≤ 64 → (2 ≤ j.val ∧ j.val < n + 2) ∨ (33 ≤ j.val ∧ j.val < n + 33) →
      s.2.2 (ix2 i j) = score (hidOf h w b) (w2Of v25) (b2Of v20) j i

theorem pairs_done (hM : ∀ r c, M (ix2 r c) = stack (projFirst h w · c) (projLast h w · c) (projMean h w · c) r.val) :
    Done h w b v20 v23 v25 31 (pairs M b v20 v23 v25 rows128 k0_pay15 lane64 colP k0_pay16 k0_pay17) := by
  refine fold_carry trips1 (pairStep M b v20 v23 v25 rows128 k0_pay15 lane64 colP k0_pay16 k0_pay17)
    (Scalar.ofBits .f32 0x00000000#32, Scalar.ofBits .f32 0x00000000#32, k0_pay21) (Done h w b v20 v23 v25)
    ⟨by rw [Finset.sum_range_zero]; exact Ideal.ofBits_zero_f32, by rw [Finset.sum_range_zero]; exact Ideal.ofBits_zero_f32, fun i j _ hj => by omega⟩ ?_
  · rintro p ⟨g, t, sc⟩ ⟨hg, ht, hs⟩
    dsimp only at hg ht hs
    have hH : ∀ (r : Fin 128) (c : Fin 1024) (hin : InRow p r), _ = _ := fun r c hin => hidden_row (b := b) hM p r c hin
    have hG : ∀ (r : Fin 128) (l : Fin 256) (hin : InRow p r), k0_pay3 M b v20 v25 rows128 colP k0_pay16 (k0_pay18 k0_pay17) (k0_pay19 colP k0_pay16)
        (k0_pay20 colP k0_pay16) 0#32 1#32 p (ix2 r l) = lab (hidOf h w b) (w2Of v25) (b2Of v20) ⟨r.val % 64, by omega⟩
          ⟨r.val % 64 + rowLen p r - 1, by have : rowLen p r = p.val + 2 + 31 * (r.val / 64) := rfl; omega⟩ l := fun r l hin => by
      rw [label_row, lab]
      exact congrArg₂ (· + ·) (Finset.sum_congr rfl fun c _ => by rw [hH r c hin]) rfl
    unfold pairStep Done
    dsimp only
    rw [trip_len]
    refine ⟨?_, ?_, ?_⟩
    · rw [Finset.sum_range_succ, gold_step _ _ _ p hG, hg]
    · rw [Finset.sum_range_succ, tag_step _ (wtOf v23) p hH (fun c => rfl), ht]
    · intro i j hij hj
      obtain ⟨s1, s2⟩ := score_step _ _ _ p hG sc i j
      by_cases h1 : j.val = p.val + 2
      · exact s1 hij (.inl h1)
      · by_cases h2 : j.val = p.val + 33
        · exact s1 hij (.inr h2)
        · rw [s2 h1 h2]
          exact hs i j hij (by omega)

end Loop

/-! ## The whole sentence -/

section Long

variable {x0 : Vec Ideal S64x704 .f32} {xa xb xc : Vec Ideal S704x1024 .f32} {h : Fin 64 → Fin 704 → ℝ} {w : Weights}
  (R : Reals x0 xa xb xc h w) (b : FVec Ideal S1x1024 .f32) (v20 : FVec Ideal S1x256 .f32) (v25 : FVec Ideal S1024x256 .bf16)

include R in
theorem long_hidden (c : Fin 1024) :
    k0_pay28 (k0_pay6 x0 xa) (k0_pay7 x0 xb) (k0_pay8 x0 xc) (k0_pay9 x0 xc) b (ix2 0 c) = hidOf h w b 0 63 c := by
  have h6 := first_table R; have h7 := last_table R; have h8 := sum_table R
  unfold k0_pay28 k0_pay9
  generalize k0_pay6 x0 xa = A at h6 ⊢
  generalize k0_pay7 x0 xb = B at h7 ⊢
  generalize k0_pay8 x0 xc = S at h8 ⊢
  pointwise
  have h64 : Ideal.ofBits FTy.f32 1015021568#32 = ((1 / 64 : ℝ) : EReal) := by
    simp [Ideal.ofBits, Ideal.ieee, -EReal.coe_mul]; norm_num
  rw [h6, h7, h8, h8, h64, hidOf, hid, lin]
  refine congrArg₂ max (congrArg₂ (· + ·) (congrArg₂ (· + ·) rfl ?_) rfl) rfl
  rw [← EReal.coe_sub, ← EReal.coe_mul]
  congr 1
  rw [mul_comm]
  norm_num

variable (v3 v5 : FVec Ideal S64x1024 .f32) (v13 : FVec Ideal S128x1024 .f32) (v14 : FVec Ideal S64x1024 .f32) (hd : Fin 64 → Fin 64 → Fin 1024 → EReal)
  (hh : ∀ c, k0_pay28 v3 v5 v13 v14 b (ix2 0 c) = hd 0 63 c)

theorem long_mask (i : Fin 64) (l : Fin 256) : k0_pay29 rows64 k0_pay15 (ix2 i l) = bit (i.val = 0 ∧ l.val = 0) := by
  unfold k0_pay29 k0_pay15
  pointwise
  rw [show (0#32 : BitVec 32) = BitVec.ofNat 32 0 from rfl, eq_bit _ _ (by omega) (by omega), eq_bit _ _ (by omega) (by omega), andi_bit]

include hh in
theorem long_labels (l : Fin 256) : k0_pay30 v3 v5 v13 v14 b v20 v25 rows64 k0_pay15 (ix2 0 l) = aug hd (w2Of v25) (b2Of v20) 0 63 l := by
  have hm := long_mask 0 l
  unfold k0_pay30
  generalize k0_pay28 v3 v5 v13 v14 b = H at hh
  generalize k0_pay29 rows64 k0_pay15 = m at hm
  pointwise
  rw [hm, float_bit, aug, lab]
  simp only [hh]
  by_cases h0 : l.val = 0
  · rw [if_pos ⟨rfl, h0⟩, if_pos ⟨by decide, rfl, h0⟩, EReal.coe_one]
  · rw [if_neg (fun h => h0 h.2), if_neg (fun h => h0 h.2.2), EReal.coe_zero, sub_zero]

include hh in
theorem long_gold (g : Ideal .f32) : k0_pay32 g (k0_pay31 v3 v5 v13 v14 b v20 v25 rows64 k0_pay15) = g + goldAt hd (w2Of v25) (b2Of v20) 0 := by
  have hm := long_mask
  have hl := long_labels b v20 v25 v3 v5 v13 v14 hd hh
  unfold k0_pay32 k0_pay31
  generalize k0_pay30 v3 v5 v13 v14 b v20 v25 rows64 k0_pay15 = L at hl
  generalize k0_pay29 rows64 k0_pay15 = m at hm
  pointwise
  simp only [hm, select_bit]
  congr 1
  rw [Finset.sum_congr rfl fun i _ => sum_head (i.val = 0) fun l => L (ix2 i l), Finset.sum_eq_single (0 : Fin 64), if_pos (show (0 : Fin 64).val = 0 from rfl), hl, goldAt,
    dif_pos (by decide)]
  · rfl
  · intro i _ hi
    rw [if_neg (show ¬ i.val = 0 from fun e => hi (Fin.ext e))]
  · simp

theorem long_tag (v23 : FVec Ideal S1024x1 .bf16) (t : Ideal .f32) (H : FVec Ideal S64x1024 .bf16) (hh : ∀ c, H (ix2 0 c) = hd 0 63 c) :
    k0_pay33 v23 rows64 t H = t + tagAt hd (wtOf v23) 0 := by
  unfold k0_pay33
  pointwise
  congr 1
  simp (disch := omega) only [show (0#32 : BitVec 32) = BitVec.ofNat 32 0 from rfl, eq_bit, select_bit, Finset.univ_unique, Finset.sum_singleton]
  rw [Finset.sum_eq_single (0 : Fin 64), if_pos (show (0 : Fin 64).val = 0 from rfl), tagAt, dif_pos (by decide)]
  · exact Finset.sum_congr rfl fun c _ => by rw [hh]; rfl
  · intro i _ hi
    rw [if_neg (show ¬ i.val = 0 from fun e => hi (Fin.ext e))]
  · simp

end Long

end Cert.KernelIdeal.Body

end
-- ==== Proof.IdealChart.lean ====
/- The kernel's chart loop: its left table holds the best parse of a span by start and length, its right table the same by end and
   length, and the lanes not yet written of the right table hold minus infinity. -/
module

public import proofs.«01_k».proof.Proof.IdealLoops

@[expose] public section

set_option maxRecDepth 8192

noncomputable section

namespace Cert.KernelIdeal.Body

open Cert.KernelIdeal Cert.KernelIdeal.Gen Cert.Words Cert.Span
open Idealize.ShloMosaic

theorem mask_bot : (Named.named (F := Ideal) κ "mask" 4048155338#32 : Ideal .f32) = ⊥ := rfl

/-- The chart loop's span length in trip `t`. -/
theorem chart_len (t : ℕ) : Scf.iv 2#32 1#32 t = BitVec.ofNat 32 (t + 2) := by
  rw [show (2#32 : BitVec 32) = BitVec.ofNat 32 2 from rfl, iv_word, Nat.add_comm]

section Chart

variable (s : ℕ → ℕ → EReal)

/-- What the two tables hold after `n` trips. -/
structure Filled (n : ℕ) (T : FVec Ideal S64x128 .f32 × FVec Ideal S128x64 .f32) : Prop where
  left : ∀ (i : Fin 64) (j : Fin 128), 1 ≤ j.val → j.val ≤ n + 1 → i.val + j.val ≤ 64 → T.1 (ix2 i j) = parse s j i
  right : ∀ (r : Fin 128) (j : Fin 64) (len i : ℕ), 1 ≤ len → len ≤ n + 1 → i + len ≤ 64 → r.val = i + len → j.val = 64 - len →
    T.2 (ix2 r j) = parse s len i
  empty : ∀ (r : Fin 128) (j : Fin 64), j.val + n ≤ 62 → T.2 (ix2 r j) = ⊥

theorem filled_start : Filled s 0 (k0_pay34, k0_pay35) where
  left i j h1 h2 _ := by
    have : j.val = 1 := by omega
    rw [this, parse_one]
    unfold k0_pay34
    pointwise
  right r j len i h1 h2 _ _ hj := by
    have hl : len = 1 := by omega
    rw [hl, parse_one]
    unfold k0_pay35
    pointwise
    rw [show (63#32 : BitVec 32) = BitVec.ofNat 32 63 from rfl, eq_bit _ _ (by omega) (by omega), select_bit, if_pos (by omega)]
  empty r j hj := by
    unfold k0_pay35
    pointwise
    rw [show (63#32 : BitVec 32) = BitVec.ofNat 32 63 from rfl, eq_bit _ _ (by omega) (by omega), select_bit, if_neg (by omega), mask_bot]

variable {sc : FVec Ideal S64x128 .f32} {v77 : FVec Ideal S64x256 .f32}
  (hsc : ∀ (i : Fin 64) (j : Fin 128), i.val + j.val ≤ 64 → 2 ≤ j.val → j.val < 64 → sc (ix2 i j) = s j i)
  (hlong : (Finset.univ : Finset (Fin 256)).fold max ⊥ (fun l => v77 (ix2 0 l)) = s 64 0)

include hsc hlong in
/-- The value a trip computes for a span inside the sentence. -/
theorem chart_value (t : Fin k0_t2_loop.trips) (T : FVec Ideal S64x128 .f32 × FVec Ideal S128x64 .f32) (hT : Filled s t.val T) (i : Fin 64)
    (hi : i.val + (t.val + 2) ≤ 64) : k0_pay36 lane64 sc v77 t T.1 T.2 (ix2 i 0) = parse s (t.val + 2) i.val := by
  have ht : t.val < 63 := trips2 ▸ t.isLt
  unfold k0_pay36
  pointwise
  rw [chart_len, neg_inf, mask_bot]
  rw [show Scalar.subi 128#32 (BitVec.ofNat 32 (t.val + 2)) = BitVec.ofNat 32 (126 - t.val) from
    (sub_word 128 (t.val + 2) (by omega)).trans (congrArg _ (by omega))]
  simp (disch := omega) only [show (64#32 : BitVec 32) = BitVec.ofNat 32 64 from rfl, eq_bit, slt_bit, select_bit, toNat_word]
  rw [parse_step s _ _ (by omega)]
  congr 1
  · rw [Finset.sum_eq_single (⟨t.val + 2, by omega⟩ : Fin 128)]
    · rw [if_pos rfl]
      by_cases h64 : t.val + 2 = 64
      · have hi0 : i = 0 := Fin.ext (by simp only [Fin.val_zero]; omega)
        rw [if_pos h64, hi0, hlong, h64]
        rfl
      · rw [if_neg h64]
        exact hsc i _ hi (by simp only; omega) (by simp only; omega)
    · intro x _ hx
      rw [if_neg fun e => hx (Fin.ext e)]
    · simp
  · refine max_eq _ _ (fun x => ?_) (fun k => ?_)
    · by_cases hx : x.val < t.val + 2
      · rw [if_pos hx]
        by_cases h0 : x.val = 0
        · left
          rw [hT.empty _ _ (by simp only; omega), EReal.add_bot]
        · right
          refine ⟨⟨x.val - 1, by omega⟩, ?_⟩
          rw [hT.left _ _ (by simp only; omega) (by simp only; omega) (by simp only; omega),
            hT.right _ _ (t.val + 2 - x.val) (i.val + x.val) (by omega) (by omega) (by omega) (by simp only; omega) (by simp only; omega)]
          exact congrArg₂ (· + ·) (congrArg (fun n => parse s n i.val) (by simp only; omega))
            (congrArg₂ (parse s) (by simp only; omega) (by simp only; omega))
      · left
        rw [if_neg hx, EReal.add_bot]
    · refine ⟨⟨k.val + 1, by omega⟩, ?_⟩
      rw [if_pos (by simp only; omega)]
      rw [hT.left _ _ (by simp only; omega) (by simp only; omega) (by simp only; omega),
        hT.right _ _ (t.val + 2 - (k.val + 1)) (i.val + (k.val + 1)) (by omega) (by omega) (by omega) (by simp only; omega) (by simp only; omega)]
      exact congrArg₂ (· + ·) rfl (congrArg₂ (parse s) (by omega) (by omega))

include hsc hlong in
theorem filled_step (t : Fin k0_t2_loop.trips) (T : FVec Ideal S64x128 .f32 × FVec Ideal S128x64 .f32) (hT : Filled s t.val T) :
    Filled s (t.val + 1) (chartStep lane64 sc v77 t T) := by
  have ht : t.val < 63 := trips2 ▸ t.isLt
  have hv := chart_value s hsc hlong t T hT
  unfold chartStep
  refine ⟨?_, ?_, ?_⟩
  · intro i j h1 h2 h3
    dsimp only
    unfold k0_pay37
    generalize k0_pay36 lane64 sc v77 t T.1 T.2 = v at hv
    pointwise
    rw [chart_len, eq_bit _ _ (by omega) (by omega), select_bit]
    by_cases hj : j.val = t.val + 2
    · rw [if_pos hj, hv i (by omega), hj]
    · rw [if_neg hj]
      exact hT.left i j h1 (by omega) h3
  · intro r j len i h1 h2 h3 hr hj
    dsimp only
    unfold k0_pay38
    generalize k0_pay36 lane64 sc v77 t T.1 T.2 = v at hv
    pointwise
    rw [chart_len, show Scalar.subi 64#32 (BitVec.ofNat 32 (t.val + 2)) = BitVec.ofNat 32 (62 - t.val) from
      (sub_word 64 (t.val + 2) (by omega)).trans (congrArg _ (by omega)), eq_bit _ _ (by omega) (by omega), select_bit]
    simp (disch := omega) only [toNat_word]
    by_cases hl : len = t.val + 2
    · rw [if_pos (by omega), dif_pos (by omega), hv _ (by simp only; omega)]
      exact congrArg₂ (parse s) hl.symm (by simp only; omega)
    · rw [if_neg (by omega)]
      exact hT.right r j len i h1 (by omega) h3 hr hj
  · intro r j hj
    dsimp only
    unfold k0_pay38
    generalize k0_pay36 lane64 sc v77 t T.1 T.2 = v at hv
    pointwise
    rw [chart_len, show Scalar.subi 64#32 (BitVec.ofNat 32 (t.val + 2)) = BitVec.ofNat 32 (62 - t.val) from
      (sub_word 64 (t.val + 2) (by omega)).trans (congrArg _ (by omega)), eq_bit _ _ (by omega) (by omega), select_bit, if_neg (by omega)]
    exact hT.empty r j (by omega)

include hsc hlong in
theorem chart_filled : Filled s 63 (chart lane64 sc v77) :=
  fold_carry trips2 (chartStep lane64 sc v77) (k0_pay34, k0_pay35) (Filled s) (filled_start s) (filled_step s hsc hlong)

include hsc hlong in
/-- The chart's top entry is the best parse of the whole sentence. -/
theorem chart_top (j : S1.Idx) : k0_pay39 lane64 (chart lane64 sc v77).1 j = parse s 64 0 := by
  have hT := chart_filled s hsc hlong
  generalize chart lane64 sc v77 = T at hT
  unfold k0_pay39
  pointwise
  simp (disch := omega) only [show (64#32 : BitVec 32) = BitVec.ofNat 32 64 from rfl, show (0#32 : BitVec 32) = BitVec.ofNat 32 0 from rfl, eq_bit,
    andi_bit, select_bit]
  rw [Finset.sum_eq_single (0 : Fin 64), Finset.sum_eq_single (64 : Fin 128), if_pos ⟨rfl, rfl⟩]
  · exact hT.left 0 64 (by decide) (by decide) (by decide)
  · intro x _ hx
    rw [if_neg fun e => hx (Fin.ext e.2)]
  · simp
  · intro x _ hx
    exact Finset.sum_eq_zero fun y _ => if_neg fun e => hx (Fin.ext e.1)
  · simp

end Chart

end Cert.KernelIdeal.Body

end
-- ==== Proof.IdealValue.lean ====
/- The number the kernel's body stores, from its input blocks: the loss of the program-free description. -/
module

public import proofs.«01_k».proof.Proof.IdealChart

@[expose] public section

set_option maxRecDepth 8192

noncomputable section

namespace Cert.KernelIdeal.Body

open Cert.KernelIdeal Cert.KernelIdeal.Gen Cert.Words Cert.Span
open Idealize.ShloMosaic

theorem div_63 (x : EReal) : Ideal.div x (Ideal.ofBits FTy.f32 0x427C0000#32) = x * ((1 / 63 : ℝ) : EReal) := by
  have h : Ideal.ofBits FTy.f32 0x427C0000#32 = ((63 : ℝ) : EReal) := by
    simp [Ideal.ofBits, Ideal.ieee, -EReal.coe_mul]; norm_num
  rw [h, Ideal.div_coe (by norm_num)]

/-- The body's last step. -/
theorem last_step (g t : Ideal .f32) (v : FVec Ideal S1 .f32) (bt : Vec Ideal S1x1 .f32) (pred : EReal) (hv : ∀ j, v j = pred) :
    k0_pay1 g t v bt (ix2 0 0) = loss pred g t (bt (ix2 0 0)) := by
  unfold k0_pay1
  pointwise
  rw [div_63, div_63, hv, loss]

section Value

variable {x0 : Vec Ideal S64x704 .f32} {x1 : Vec Ideal S2112x1024 .f32} {x2 : Vec Ideal S1x1024 .f32} {x3 : Vec Ideal S1024x256 .f32}
  {x4 : Vec Ideal S1x256 .f32} {x5 : Vec Ideal S1024x1 .f32} {x6 : Vec Ideal S1x1 .f32}
  {h : Fin 64 → Fin 704 → ℝ} {w : Weights}

theorem loads_real (h0 : ∀ i k, x0 (ix2 i k) = ((h i k : ℝ) : EReal)) (h1 : Blocks (fun k c => x1 (ix2 k c)) w) :
    Reals (View.ld x0 rH) (View.ld x1 rWa) (View.ld x1 rWb) (View.ld x1 rWc) h w where
  tokens i k := by
    rw [← h0]; pointwise
  first k c := by
    rw [← h1.first]; pointwise
  last k c := by
    rw [← h1.last]; pointwise
  mean k c := by
    rw [← h1.mean]; pointwise

/-- The number the body stores. -/
theorem result_eq (h0 : ∀ i k, x0 (ix2 i k) = ((h i k : ℝ) : EReal)) (h1 : Blocks (fun k c => x1 (ix2 k c)) w) :
    result x0 x1 x2 x3 x4 x5 x6 (ix2 0 0) = total (hid h w fun c => x2 (ix2 0 c)) (fun c l => x3 (ix2 c l)) (fun l => x4 (ix2 0 l))
      (fun c => x5 (ix2 c 0)) (x6 (ix2 0 0)) := by
  have R := loads_real h0 h1
  have hb : ∀ c, k0_pay11 (View.ld x2 rB1) (ix2 0 c) = x2 (ix2 0 c) := fun c => by unfold k0_pay11; pointwise
  have hb2 : ∀ l, k0_pay12 (View.ld x4 rB2) (ix2 0 l) = x4 (ix2 0 l) := fun l => by unfold k0_pay12; pointwise
  have hw2 : ∀ c l, k0_pay14 (View.ld x3 rW2) (ix2 c l) = x3 (ix2 c l) := fun c l => by unfold k0_pay14; pointwise
  have hwt : ∀ c, k0_pay13 (View.ld x5 rWt) (ix2 c 0) = x5 (ix2 c 0) := fun c => by unfold k0_pay13; pointwise
  have hbt : View.ld x6 rOut (ix2 0 0) = x6 (ix2 0 0) := by pointwise
  obtain ⟨hg, ht, hs⟩ := pairs_done (b := k0_pay11 (View.ld x2 rB1)) (v20 := k0_pay12 (View.ld x4 rB2)) (v23 := k0_pay13 (View.ld x5 rWt))
    (v25 := k0_pay14 (View.ld x3 rW2)) (stack_table R)
  have hl := long_hidden R (k0_pay11 (View.ld x2 rB1))
  have hf := long_labels (k0_pay11 (View.ld x2 rB1)) (k0_pay12 (View.ld x4 rB2)) (k0_pay14 (View.ld x3 rW2)) _ _ _ _ _ hl
  have hc := chart_top (score (hidOf h w (k0_pay11 (View.ld x2 rB1))) (w2Of (k0_pay14 (View.ld x3 rW2))) (b2Of (k0_pay12 (View.ld x4 rB2))))
    (sc := (short x0 x1 x2 x3 x4 x5).2.2) (v77 := longFeats x0 x1 x2 x3 x4) (fun i j hij h2 h3 => hs i j hij (by omega))
    (by rw [score, dif_pos (by decide), best]; exact Finset.fold_congr fun l _ => hf l)
  unfold result
  rw [last_step _ _ _ _ _ hc]
  unfold longGold longHid
  rw [long_gold _ _ _ _ _ _ _ _ hl, long_tag _ _ _ _ hl]
  unfold short
  rw [hg, ht, sum_starts, sum_starts, total]
  rw [show w2Of (k0_pay14 (View.ld x3 rW2)) = fun c l => x3 (ix2 c l) from funext fun c => funext (hw2 c),
    show b2Of (k0_pay12 (View.ld x4 rB2)) = fun l => x4 (ix2 0 l) from funext hb2,
    show wtOf (k0_pay13 (View.ld x5 rWt)) = fun c => x5 (ix2 c 0) from funext hwt, hbt, hidOf,
    show (fun c => k0_pay11 (View.ld x2 rB1) (ix2 0 c)) = fun c => x2 (ix2 0 c) from funext hb]

end Value

end Cert.KernelIdeal.Body

end
-- ==== Proof.RefStages.lean ====
/- The reference's computation in named stages, each a function of arrays, and what the operation lists of its program leave
   in the buffers in those terms. -/
module

public import proofs.«01_k».proof.Proof.Gen.ReferenceIdeal.Run
public import Idealize.ShloMosaic.Lib.Tactic
public import Idealize.ShloMosaic.Lib.Claim

@[expose] public section

set_option maxRecDepth 8192

noncomputable section

namespace Cert.ReferenceIdeal.Stage

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-! ## The stages -/

/-- The token features: word row, mean of the sixteen character rows, part-of-speech row. -/
def tokens (a0 : IVec S64 32) (a1 : IVec S64x16 32) (a2 : IVec S64 32) (a4 : FVec F S30000x512 .f32) (a5 : FVec F S100x128 .f32)
    (a6 : FVec F S50x64 .f32) : FVec F S64x704 .f32 :=
  concatenate S64x704 1
    [⟨S64x512, Host.gather gather_S30000x512_S64x1_S64x512_1_0_n_n_0_1_1512 a4 (broadcastInDim S64x1 ![0] bcast_S64_S64x1_0
        (select (cmpi .slt a0 (broadcastInDim S64 ![] bcast_S_S64 (constantI S_ 32 0#32)))
          (addi a0 (broadcastInDim S64 ![] bcast_S_S64 (constantI S_ 32 30000#32))) a0))⟩,
      ⟨S64x128, Host.divf (Host.reduceAdd (Host.gather gather_S100x128_S64x16x1_S64x16x128_2_0_n_n_0_2_1128 a5
          (broadcastInDim S64x16x1 ![0, 1] bcast_S64x16_S64x16x1_0_1
            (select (cmpi .slt a1 (broadcastInDim S64x16 ![] bcast_S_S64x16 (constantI S_ 32 0#32)))
              (addi a1 (broadcastInDim S64x16 ![] bcast_S_S64x16 (constantI S_ 32 100#32))) a1)))
          (constant S_ .f32 0x00000000#32) reducesTo_S64x16x128_S64x128_d1 h_S_)
        (broadcastInDim S64x128 ![] bcast_S_S64x128 (constant S_ .f32 0x41800000#32))⟩,
      ⟨S64x64, Host.gather gather_S50x64_S64x1_S64x64_1_0_n_n_0_1_164 a6 (broadcastInDim S64x1 ![0] bcast_S64_S64x1_0
        (select (cmpi .slt a2 (broadcastInDim S64 ![] bcast_S_S64 (constantI S_ 32 0#32)))
          (addi a2 (broadcastInDim S64 ![] bcast_S_S64 (constantI S_ 32 50#32))) a2))⟩]
    concatenates_S64x512_S64x128_S64x64_S64x704_d1

/-- The running sums of the token features. -/
def sums (h : FVec F S64x704 .f32) : FVec F S64x704 .f32 :=
  Host.reduceWindowAdd ![64, 1] ![1, 1] ![63, 0] ![0, 0] h (broadcastInDim S_ ![] bcast_S_S_ (constant S_ .f32 0x00000000#32))
    reduceWindows_S64x704_S64x704_w64s1p63_0_w1s1p0_0 h_S_

/-- The row of zeros before the running sums. -/
def zeroRow : FVec F S1x704 .f32 := broadcastInDim S1x704 ![] bcast_S_S1x704 (constant S_ .f32 0x00000000#32)

/-- A row on top of a table: with `zeroRow` and `sums` the prefix sums, from the empty one. -/
def prefixes (z : FVec F S1x704 .f32) (s : FVec F S64x704 .f32) : FVec F S65x704 .f32 :=
  concatenate S65x704 0 [⟨S1x704, z⟩, ⟨S64x704, s⟩] concatenates_S1x704_S64x704_S65x704_d0

/-- The number of tokens from `i` to `e`, at least one, as a float. -/
def spanLength : FVec F S64x64 .f32 :=
  sitofp .f32 (maxsi (subi (addi (iotaInDim S64x64 32 1) (broadcastInDim S64x64 ![] bcast_S_S64x64 (constantI S_ 32 1#32))) (iotaInDim S64x64 32 0))
    (broadcastInDim S64x64 ![] bcast_S_S64x64 (constantI S_ 32 1#32)))

/-- The mean of the token features of the span from `i` to `e`, from their prefix sums. -/
def spanMean (p : FVec F S65x704 .f32) : FVec F S64x64x704 .f32 :=
  Host.divf
    (subf (broadcastInDim S64x64x704 ![0, 1, 2] bcast_S1x64x704_S64x64x704_0_1_2 (broadcastInDim S1x64x704 ![1, 2] bcast_S64x704_S1x64x704_1_2
        (extractStridedSlice S64x704 ![1, 0] p slices_S65x704_S64x704_1_0)))
      (broadcastInDim S64x64x704 ![0, 1, 2] bcast_S64x1x704_S64x64x704_0_1_2 (broadcastInDim S64x1x704 ![0, 2] bcast_S64x704_S64x1x704_0_2
        (extractStridedSlice S64x704 ![0, 0] p slices_S65x704_S64x704_0_0))))
    (broadcastInDim S64x64x704 ![0, 1, 2] bcast_S64x64x1_S64x64x704_0_1_2 (broadcastInDim S64x64x1 ![0, 1] bcast_S64x64_S64x64x1_0_1 spanLength))

/-- The representation of every span: first token, last token, mean. -/
def spanRep (h : FVec F S64x704 .f32) (p : FVec F S65x704 .f32) : FVec F S64x64x2112 .f32 :=
  concatenate S64x64x2112 2
    [⟨S64x64x704, broadcastInDim S64x64x704 ![0, 1, 2] bcast_S64x1x704_S64x64x704_0_1_2 (broadcastInDim S64x1x704 ![0, 2] bcast_S64x704_S64x1x704_0_2 h)⟩,
      ⟨S64x64x704, broadcastInDim S64x64x704 ![0, 1, 2] bcast_S1x64x704_S64x64x704_0_1_2 (broadcastInDim S1x64x704 ![1, 2] bcast_S64x704_S1x64x704_1_2 h)⟩,
      ⟨S64x64x704, spanMean p⟩]
    concatenates_S64x64x704_S64x64x704_S64x64x704_S64x64x2112_d2

/-- The hidden layer of every span. -/
def hidden (h : FVec F S64x704 .f32) (W1 : FVec F S2112x1024 .f32) (b1 : FVec F S1024 .f32) : FVec F S64x64x1024 .f32 :=
  maximumf
    (addf (Host.dotGeneral dot_S64x64x2112_S2112x1024_S64x64x1024_2_0_01_1_n_n none (spanRep h (prefixes zeroRow (sums h))) W1)
      (broadcastInDim S64x64x1024 ![0, 1, 2] bcast_S1x1x1024_S64x64x1024_0_1_2 (broadcastInDim S1x1x1024 ![2] bcast_S1024_S1x1x1024_2 b1)))
    (broadcastInDim S64x64x1024 ![] bcast_S_S64x64x1024 (constant S_ .f32 0x00000000#32))

/-- The label scores of every span. -/
def labels (hid : FVec F S64x64x1024 .f32) (W2 : FVec F S1024x256 .f32) (b2 : FVec F S256 .f32) : FVec F S64x64x256 .f32 :=
  addf (Host.dotGeneral dot_S64x64x1024_S1024x256_S64x64x256_2_0_01_1_n_n none hid W2)
    (broadcastInDim S64x64x256 ![0, 1, 2] bcast_S1x1x256_S64x64x256_0_1_2 (broadcastInDim S1x1x256 ![2] bcast_S256_S1x1x256_2 b2))

/-- The gold entries: a span of two tokens or more that ends at the last token, at label zero. -/
def isGold : IVec S64x64x256 1 :=
  andi (andi (cmpi .slt (iotaInDim S64x64x256 32 0) (broadcastInDim S64x64x256 ![] bcast_S_S64x64x256 (constantI S_ 32 63#32)))
      (cmpi .eq (iotaInDim S64x64x256 32 1) (broadcastInDim S64x64x256 ![] bcast_S_S64x64x256 (constantI S_ 32 63#32))))
    (cmpi .eq (iotaInDim S64x64x256 32 2) (broadcastInDim S64x64x256 ![] bcast_S_S64x64x256 (constantI S_ 32 0#32)))

/-- The label scores with one taken off the gold entries. -/
def augmented (l : FVec F S64x64x256 .f32) : FVec F S64x64x256 .f32 :=
  select isGold (subf l (broadcastInDim S64x64x256 ![] bcast_S_S64x64x256 (constant S_ .f32 0x3F800000#32))) l

/-- The gold entries' sum. -/
def goldSum (f : FVec F S64x64x256 .f32) : FVec F S_ .f32 :=
  Host.reduceAdd (shapeCast S63 (extractStridedSlice S63x1x1 ![0, 63, 0] f slices_S64x64x256_S63x1x1_0_63_0) shapeCasts_S63x1x1_S63)
    (constant S_ .f32 0x00000000#32) reducesTo_S63_S_d0 h_S_

/-- The best label's score of every span. -/
def spanScore (f : FVec F S64x64x256 .f32) : FVec F S64x64 .f32 :=
  Host.reduce FloatOps.maximumf f (constant S_ .f32 0xFF800000#32) reducesTo_S64x64x256_S64x64_d2 h_S_

/-- The span scores by end points. -/
def scoreMat (s : FVec F S64x64 .f32) : FVec F S65x65 .f32 :=
  pad S65x65 ![0, 1] ![1, 0] ![0, 0] s (sitofp .f32 (constantI S_ 32 0#32)) pads_S64x64_S65x65_010_100 h_S_

/-- Minus the mean of the gold tag scores. -/
def tagLoss (hid : FVec F S64x64x1024 .f32) (Wt : FVec F S1024x64 .f32) (bt : FVec F S64 .f32) : FVec F S_ .f32 :=
  Host.negf (Host.divf
    (Host.reduceAdd
      (shapeCast S63 (extractStridedSlice S63x1 ![0, 0]
        (addf (Host.dotGeneral dot_S63x1024_S1024x64_S63x64_1_0_0_1_n_n none
            (shapeCast S63x1024 (extractStridedSlice S63x1x1024 ![0, 63, 0] hid slices_S64x64x1024_S63x1x1024_0_63_0) shapeCasts_S63x1x1024_S63x1024) Wt)
          (broadcastInDim S63x64 ![0, 1] bcast_S1x64_S63x64_0_1 (broadcastInDim S1x64 ![1] bcast_S64_S1x64_1 bt)))
        slices_S63x64_S63x1_0_0) shapeCasts_S63x1_S63)
      (constant S_ .f32 0x00000000#32) reducesTo_S63_S_d0 h_S_)
    (constant S_ .f32 0x427C0000#32))

/-- The split positions strictly inside a span. -/
def isInside : IVec S65x65x65 1 :=
  andi (cmpi .slt (iotaInDim S65x65x65 32 0) (iotaInDim S65x65x65 32 1)) (cmpi .slt (iotaInDim S65x65x65 32 1) (iotaInDim S65x65x65 32 2))

/-- A span's length by its end points. -/
def lengthMat : IVec S65x65 32 := subi (iotaInDim S65x65 32 1) (iotaInDim S65x65 32 0)

/-- One step of the chart at counter `t`: the spans of length `t + 2` get their score plus their best split. -/
def chartStep (sc : FVec F S65x65 .f32) (t : IVec S_ 32) (best : FVec F S65x65 .f32) : FVec F S65x65 .f32 :=
  select (cmpi .eq lengthMat (broadcastInDim S65x65 ![] bcast_S_S65x65 (addi t (constantI S_ 32 2#32))))
    (addf sc (Host.reduce FloatOps.maximumf
      (select isInside
        (addf (broadcastInDim S65x65x65 ![0, 1, 2] bcast_S65x65x1_S65x65x65_0_1_2 (broadcastInDim S65x65x1 ![0, 1] bcast_S65x65_S65x65x1_0_1 best))
          (broadcastInDim S65x65x65 ![0, 1, 2] bcast_S1x65x65_S65x65x65_0_1_2 (broadcastInDim S1x65x65 ![1, 2] bcast_S65x65_S1x65x65_1_2 best)))
        (broadcastInDim S65x65x65 ![] bcast_S_S65x65x65 (constant S_ .f32 0xFF800000#32)))
      (constant S_ .f32 0xFF800000#32) reducesTo_S65x65x65_S65x65_d1 h_S_))
    best

/-- The loss from the finished chart, the gold sum and the tag loss. -/
def loss (best : FVec F S65x65 .f32) (gold tag : FVec F S_ .f32) : FVec F S1x1 .f32 :=
  shapeCast S1x1
    (addf tag (Host.divf
      (maximumf (subf (shapeCast S_ (extractStridedSlice S1x1 ![0, 64] best slices_S65x65_S1x1_0_64) shapeCasts_S1x1_S_) gold)
        (constant S_ .f32 0x00000000#32))
      (constant S_ .f32 0x427C0000#32))) shapeCasts_S_S1x1

/-! ## What the operation lists leave -/

variable (V : Valuation τ sig (Elt F))

theorem ops0_tokens : after hostOps0 V (Proc.devRef .tc main_v24)
    = tokens (V (Proc.devRef .tc main_arg0)) (V (Proc.devRef .tc main_arg1)) (V (Proc.devRef .tc main_arg2))
        (V (Proc.devRef .tc main_arg4)) (V (Proc.devRef .tc main_arg5)) (V (Proc.devRef .tc main_arg6)) := by
  after_reads_simp
  rfl

theorem ops0_zero : after hostOps0 V (Proc.devRef .tc main_v25) = zeroRow := by
  after_reads_simp
  rfl

theorem ops1_sums : after hostOps0_1 V (Proc.devRef .tc main_v26) = sums (V (Proc.devRef .tc main_v24)) := by
  after_reads_simp
  rfl

/-- The hidden layer before its rectification, from the contents that hold the tokens and their running sums. -/
theorem ops2_hidden : after hostOps0_2 V (Proc.devRef .tc main_v54)
      = addf (Host.dotGeneral dot_S64x64x2112_S2112x1024_S64x64x1024_2_0_01_1_n_n none
          (spanRep (V (Proc.devRef .tc main_v24)) (prefixes (V (Proc.devRef .tc main_v25)) (V (Proc.devRef .tc main_v26))))
          (V (Proc.devRef .tc main_arg7)))
        (broadcastInDim S64x64x1024 ![0, 1, 2] bcast_S1x1x1024_S64x64x1024_0_1_2
          (broadcastInDim S1x1x1024 ![2] bcast_S1024_S1x1x1024_2 (V (Proc.devRef .tc main_arg8)))) := by
  after_reads_simp
  rfl

theorem ops3_relu : after hostOps0_3 V (Proc.devRef .tc main_v55)
    = maximumf (V (Proc.devRef .tc main_v54)) (broadcastInDim S64x64x1024 ![] bcast_S_S64x64x1024 (constant S_ .f32 0x00000000#32)) := by
  after_reads_simp
  rfl

theorem ops4_labels : after hostOps0_4 V (Proc.devRef .tc main_v59)
    = labels (V (Proc.devRef .tc main_v55)) (V (Proc.devRef .tc main_arg9)) (V (Proc.devRef .tc main_arg10)) := by
  after_reads_simp
  rfl

theorem ops4_gold : after hostOps0_4 V (Proc.devRef .tc main_v70) = isGold := by
  after_reads_simp
  rfl

theorem ops4_less : after hostOps0_4 V (Proc.devRef .tc main_v72)
    = subf (labels (V (Proc.devRef .tc main_v55)) (V (Proc.devRef .tc main_arg9)) (V (Proc.devRef .tc main_arg10)))
        (broadcastInDim S64x64x256 ![] bcast_S_S64x64x256 (constant S_ .f32 0x3F800000#32)) := by
  after_reads_simp
  rfl

theorem ops5_where : after hostOps0_5 V (Proc.devRef .tc main_v73)
    = select (V (Proc.devRef .tc main_v70)) (V (Proc.devRef .tc main_v72)) (V (Proc.devRef .tc main_v59)) := by
  after_reads_simp
  rfl

theorem ops6_gold : after hostOps0_6 V (Proc.devRef .tc main_v76) = goldSum (V (Proc.devRef .tc main_v73)) := by
  after_reads_simp
  rfl

theorem ops6_score : after hostOps0_6 V (Proc.devRef .tc main_v77) = spanScore (V (Proc.devRef .tc main_v73)) := by
  after_reads_simp
  rfl

theorem ops6_tag : after hostOps0_6 V (Proc.devRef .tc main_v88)
    = tagLoss (V (Proc.devRef .tc main_v55)) (V (Proc.devRef .tc main_arg11)) (V (Proc.devRef .tc main_arg12)) := by
  after_reads_simp
  rfl

theorem ops6_word : after hostOps0_6 V (Proc.devRef .tc main_c_17) = constantI S_ 32 0#32 := by
  after_reads_simp

theorem ops7_pad (hc : V (Proc.devRef .tc main_c_17) = constantI S_ 32 0#32) :
    after hostOps0_7 V (Proc.devRef .tc main_v89) = scoreMat (V (Proc.devRef .tc main_v77)) := by
  after_reads_simp
  simp only [hc]
  rfl

theorem ops8_inside : after hostOps0_8 V (Proc.devRef .tc main_v100_0) = isInside := by
  after_reads_simp
  rfl

theorem ops8_length : after hostOps0_8 V (Proc.devRef .tc main_v100_1) = lengthMat := by
  after_reads_simp
  rfl

theorem ops8_score : after hostOps0_8 V (Proc.devRef .tc main_v100_2) = V (Proc.devRef .tc main_v89) := by
  after_reads_simp
  rfl

theorem ops8_counter : after hostOps0_8 V (Proc.devRef .tc main_v100_4) = constantI S_ 32 0#32 := by
  after_reads_simp
  rfl

theorem ops8_best : after hostOps0_8 V (Proc.devRef .tc main_v100_5)
    = broadcastInDim S65x65 ![] bcast_S_S65x65 (constant S_ .f32 0x00000000#32) := by
  after_reads_simp
  rfl

theorem post_loss : afterL postI V (Proc.devRef .tc main_v107)
    = loss (V (Proc.devRef .tc main_v100_5)) (V (Proc.devRef .tc main_v76)) (V (Proc.devRef .tc main_v88)) := by
  rw [afterL_eq_after_flatten]
  simp only [postI, List.flatten_cons, List.flatten_nil, List.cons_append, List.nil_append, List.append_nil]
  after_reads_simp
  rfl

theorem step_best (hi : V (Proc.devRef .tc main_v100_0) = isInside) (hl : V (Proc.devRef .tc main_v100_1) = lengthMat) :
    STEP V (Proc.devRef .tc main_v100_5)
      = chartStep (V (Proc.devRef .tc main_v100_2)) (V (Proc.devRef .tc main_v100_4)) (V (Proc.devRef .tc main_v100_5)) := by
  rw [STEP_main_v100_5, step_main_v100_5, hi, hl]
  rfl

end Cert.ReferenceIdeal.Stage

end
-- ==== Proof.IdealArrays.lean ====
/- The kernel's arrays: what its host operations hand the launch, and the result array after the run. -/
module

public import proofs.«01_k».proof.Proof.IdealFrame
public import proofs.«01_k».proof.Proof.IdealValue
public import proofs.«01_k».proof.Proof.RefStages
public import Idealize.ShloMosaic.Lib.Pointwise

@[expose] public section

set_option maxRecDepth 16384

noncomputable section

namespace Cert.KernelIdeal.Body

open Cert.KernelIdeal Cert.KernelIdeal.Gen Cert.Span
open Idealize.ShloMosaic Idealize.ShloMosaic.TcCoe Idealize.ShloMosaic.Tactic Idealize.ShloMosaic.StableHlo
open Idealize.SL Idealize.SL.Sem

variable {F : FTy → Type} [FloatOps F] [Named F]
variable (m : (ℓ : Loc nD τ sig) → Buf (Elt F) ℓ) (ρ : Dev nD → PrngReg) (c : Dev nD)

/-! ## The host operations -/

theorem host_tokens : V m c main_v24 = Cert.ReferenceIdeal.Stage.tokens (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6)) := by
  unfold V
  after_reads_simp
  rfl

theorem host_b1 : V m c main_v25 = shapeCast S1x1024 (m ((c.tc : Thread nD τ).loc main_arg8)) shapeCasts_S1024_S1x1024 := by
  unfold V
  after_reads_simp
  rfl

theorem host_b2 : V m c main_v26 = shapeCast S1x256 (m ((c.tc : Thread nD τ).loc main_arg10)) shapeCasts_S256_S1x256 := by
  unfold V
  after_reads_simp
  rfl

theorem host_wt : V m c main_v27 = extractStridedSlice S1024x1 ![0, 0] (m ((c.tc : Thread nD τ).loc main_arg11)) slices_S1024x64_S1024x1_0_0 := by
  unfold V
  after_reads_simp

theorem host_bt : V m c main_v30 = shapeCast S1x1 (shapeCast S_ (extractStridedSlice S1 ![0] (m ((c.tc : Thread nD τ).loc main_arg12)) slices_S64_S1_0)
    shapeCasts_S1_S_) shapeCasts_S_S1x1 := by
  unfold V
  after_reads_simp
  rfl

/-! ## The blocks -/

/-- The one grid point. -/
abbrev pt : Fin cfg0.N := ⟨0, by decide⟩

theorem block0 : iblk m c 0 pt = V m c main_v24 :=
  Memref.read_access_unit_zero (Elt F) main_v24
    (show (fun a => (win0_0.index pt) a * main_v24.ty.shape.size a) = fun _ => 0 from funext fun a => by fin_cases a <;> decide)
    (fun a => by fin_cases a <;> decide) _

theorem block1 : iblk m c 1 pt = V m c main_arg7 :=
  Memref.read_access_unit_zero (Elt F) main_arg7
    (show (fun a => (win0_1.index pt) a * main_arg7.ty.shape.size a) = fun _ => 0 from funext fun a => by fin_cases a <;> decide)
    (fun a => by fin_cases a <;> decide) _

theorem block2 : iblk m c 2 pt = V m c main_v25 :=
  Memref.read_access_unit_zero (Elt F) main_v25
    (show (fun a => (win0_2.index pt) a * main_v25.ty.shape.size a) = fun _ => 0 from funext fun a => by fin_cases a <;> decide)
    (fun a => by fin_cases a <;> decide) _

theorem block3 : iblk m c 3 pt = V m c main_arg9 :=
  Memref.read_access_unit_zero (Elt F) main_arg9
    (show (fun a => (win0_3.index pt) a * main_arg9.ty.shape.size a) = fun _ => 0 from funext fun a => by fin_cases a <;> decide)
    (fun a => by fin_cases a <;> decide) _

theorem block4 : iblk m c 4 pt = V m c main_v26 :=
  Memref.read_access_unit_zero (Elt F) main_v26
    (show (fun a => (win0_4.index pt) a * main_v26.ty.shape.size a) = fun _ => 0 from funext fun a => by fin_cases a <;> decide)
    (fun a => by fin_cases a <;> decide) _

theorem block5 : iblk m c 5 pt = V m c main_v27 :=
  Memref.read_access_unit_zero (Elt F) main_v27
    (show (fun a => (win0_5.index pt) a * main_v27.ty.shape.size a) = fun _ => 0 from funext fun a => by fin_cases a <;> decide)
    (fun a => by fin_cases a <;> decide) _

theorem block6 : iblk m c 6 pt = V m c main_v30 :=
  Memref.read_access_unit_zero (Elt F) main_v30
    (show (fun a => (win0_6.index pt) a * main_v30.ty.shape.size a) = fun _ => 0 from funext fun a => by fin_cases a <;> decide)
    (fun a => by fin_cases a <;> decide) _

theorem read_out (f : Buf (Elt F) ((c.tc : Thread nD τ).loc main_v31)) : ((cfg0.win 7).blk pt).view.read (Elt F) f = f :=
  Memref.read_access_unit_zero (Elt F) main_v31
    (show (fun a => (win0_7.index pt) a * main_v31.ty.shape.size a) = fun _ => 0 from funext fun a => by fin_cases a <;> decide)
    (fun a => by fin_cases a <;> decide) f

/-- The result array after the run is the body's output block. -/
theorem final_out : (dats m 0 c).arrAt 7 cfg0.N
    = outBlock (V m c main_v24) (V m c main_arg7) (V m c main_v25) (V m c main_arg9) (V m c main_v26) (V m c main_v27) (V m c main_v30) := by
  have hw : ((cfg0.win 7).blk pt).view.read (Elt F) ((dats m 0 c).arrAt 7 cfg0.N) = (dats m 0 c).flushed 7 pt := by
    rw [show cfg0.N = (pt).val + 1 from rfl, (dats m 0 c).arrAt_succ 7 pt, show (cfg0.win 7).flush pt = true by decide, if_pos rfl]
    exact View.read_write_univ _ _
  have hf : (dats m 0 c).flushed 7 pt
      = outBlock (V m c main_v24) (V m c main_arg7) (V m c main_v25) (V m c main_arg9) (V m c main_v26) (V m c main_v27) (V m c main_v30) := by
    show (cfg0.win 7).cut _ ((dats m 0 c).after 7 pt) = _
    rw [after_out, block0, block1, block2, block3, block4, block5, block6]
    exact funext fun _ => rfl
  exact (read_out c _).symm.trans (hw.trans hf)

/-- The output block's one entry is the number the body stores. -/
theorem out_entry (x0 : Vec F S64x704 .f32) (x1 : Vec F S2112x1024 .f32) (x2 : Vec F S1x1024 .f32) (x3 : Vec F S1024x256 .f32)
    (x4 : Vec F S1x256 .f32) (x5 : Vec F S1024x1 .f32) (x6 : Vec F S1x1 .f32) :
    outBlock x0 x1 x2 x3 x4 x5 x6 = result x0 x1 x2 x3 x4 x5 x6 := by
  unfold outBlock
  generalize result x0 x1 x2 x3 x4 x5 x6 = p
  refine View.canon_unit_zero (Val := Elt F) (e := .f32) (S := S1x1) ?_ _ p
  funext a
  fin_cases a <;> rfl

theorem one_entry (x : Vec F S1x1 .f32) (j : S1x1.Idx) : x j = x (ix2 0 0) := by
  congr 1
  funext a
  fin_cases a <;> exact Subsingleton.elim (α := Fin 1) _ _

/-- The frame together with the result array. -/
theorem run_out : θ_run defs (onTc (τ := τ) (main (F := F))) ⟨m, fun _ => 0, ρ⟩ (fun r => ∀ c : Dev nD,
      r.2.mem ((c.tc : Thread nD τ).loc main_v31)
        = result (V m c main_v24) (V m c main_arg7) (V m c main_v25) (V m c main_arg9) (V m c main_v26) (V m c main_v27) (V m c main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h.1.1 c).1 7).trans ((final_out m c).trans (out_entry _ _ _ _ _ _ _)), h.2.1 c⟩)
    (θ_run_and (launch m ρ) (quiet m ρ))

section Ideal

variable (m : (ℓ : Loc nD τ sig) → Buf (Elt Ideal) ℓ) {h : Fin 64 → Fin 704 → ℝ} {w : Weights}

/-- The token features the host computes. -/
abbrev tokensOf : Vec Ideal S64x704 .f32 :=
  Cert.ReferenceIdeal.Stage.tokens (F := Ideal) (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6))

/-- The number the kernel returns, from its arguments. -/
theorem kernel_value (a7 : Vec Ideal S2112x1024 .f32) (a8 : Vec Ideal ⟨1, ![1024]⟩ .f32) (a9 : Vec Ideal S1024x256 .f32) (a10 : Vec Ideal ⟨1, ![256]⟩ .f32)
    (a11 : Vec Ideal ⟨2, ![1024, 64]⟩ .f32) (a12 : Vec Ideal ⟨1, ![64]⟩ .f32)
    (e7 : m ((c.tc : Thread nD τ).loc main_arg7) = a7) (e8 : m ((c.tc : Thread nD τ).loc main_arg8) = a8)
    (e9 : m ((c.tc : Thread nD τ).loc main_arg9) = a9) (e10 : m ((c.tc : Thread nD τ).loc main_arg10) = a10)
    (e11 : m ((c.tc : Thread nD τ).loc main_arg11) = a11) (e12 : m ((c.tc : Thread nD τ).loc main_arg12) = a12)
    (h0 : ∀ i k, tokensOf c m (ix2 i k) = ((h i k : ℝ) : EReal)) (h1 : Blocks (fun k j => a7 (ix2 k j)) w) (j : S1x1.Idx) :
    result (V m c main_v24) (V m c main_arg7) (V m c main_v25) (V m c main_arg9) (V m c main_v26) (V m c main_v27) (V m c main_v30) j
      = total (hid h w fun c => a8 (ix1 c)) (fun c l => a9 (ix2 c l)) (fun l => a10 (ix1 l)) (fun c => a11 (ix2 c 0)) (a12 (ix1 0)) := by
  refine (one_entry (F := Ideal) _ j).trans ?_
  rw [host_tokens, V_main_arg7, host_b1, V_main_arg9, host_b2, host_wt, host_bt, e7, e8, e9, e10, e11, e12]
  rw [result_eq h0 h1]
  pointwise

end Ideal

end Cert.KernelIdeal.Body

end
-- ==== Proof.RefHidden.lean ====
/- The reference's hidden layer at a span, for real token features and real weights of the mean: its running sums are prefix sums, and the mean of a
   span times its weights is a difference of prefix sums of projections. -/
module

public import proofs.«01_k».proof.Proof.RefStages
public import proofs.«01_k».proof.Proof.Words
public import proofs.«01_k».proof.Proof.Spec
public import Idealize.ShloMosaic.Lib.Pointwise

@[expose] public section

set_option maxRecDepth 8192

noncomputable section

namespace Cert.ReferenceIdeal.Stage

open Cert.ReferenceIdeal Cert.ReferenceIdeal.Gen Cert.Words Cert.Span
open Idealize.ShloMosaic
open scoped BigOperators

/-! ## The running sums -/

theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The sum of a window of 64 that ends at position `i` is the sum up to `i`. -/
theorem sum_window (f : ℕ → EReal) (i : ℕ) (hi : i < 64) :
    (∑ n ∈ Finset.range 64, if 63 ≤ i + n then f (i + n - 63) else 0) = ∑ q ∈ Finset.range (i + 1), f q := by
  rw [show (64 : ℕ) = (63 - i) + (i + 1) by omega, Finset.sum_range_add, Finset.sum_eq_zero, zero_add]
  · refine Finset.sum_congr rfl fun q _ => ?_
    rw [if_pos (by omega)]
    congr 1
    omega
  · intro n hn
    rw [if_neg (by have := Finset.mem_range.mp hn; omega)]

theorem sum_cut (f : ℕ → ℝ) (i : ℕ) (hi : i < 64) :
    (∑ n ∈ Finset.range 64, if n < i + 1 then f n else 0) = ∑ q ∈ Finset.range (i + 1), f q := by
  rw [show (64 : ℕ) = (i + 1) + (63 - i) by omega, Finset.sum_range_add, Finset.sum_eq_zero (s := Finset.range (63 - i)), add_zero]
  · exact Finset.sum_congr rfl fun q hq => if_pos (Finset.mem_range.mp hq)
  · intro n hn
    rw [if_neg (by omega)]

/-- The sum of the first entries as `before` states it. -/
theorem sum_before (x : Fin 64 → ℝ) (i : ℕ) (hi : i < 64) :
    (∑ q ∈ Finset.range (i + 1), ((if h : q < 64 then x ⟨q, h⟩ else 0 : ℝ) : EReal)) = ((before x (i + 1) : ℝ) : EReal) := by
  rw [before, ← coe_sum]
  congr 1
  have e : ∀ q : Fin 64, (if q.val < i + 1 then x q else 0) = (fun n : ℕ => if n < i + 1 then (if h : n < 64 then x ⟨n, h⟩ else 0) else 0) q.val := by
    intro q
    simp only [dif_pos q.isLt]
  rw [Finset.sum_congr rfl fun q _ => e q,
    Fin.sum_univ_eq_sum_range (fun n : ℕ => if n < i + 1 then (if h : n < 64 then x ⟨n, h⟩ else 0) else 0) 64,
    sum_cut _ _ hi]

/-- The window's shape. -/
abbrev win : Shape := ⟨2, ![64, 1]⟩

/-- The window's positions are the numbers below 64. -/
def winEquiv : Fin 64 ≃ win.Idx where
  toFun n := ix2 n (0 : Fin 1)
  invFun j := j 0
  left_inv n := rfl
  right_inv j := by
    funext a
    fin_cases a
    · rfl
    · exact Subsingleton.elim (α := Fin 1) _ _

variable {x : FVec Ideal S64x704 .f32} {h : Fin 64 → Fin 704 → ℝ}

theorem sums_at (h0 : ∀ i k, x (ix2 i k) = ((h i k : ℝ) : EReal)) (i : Fin 64) (k : Fin 704) :
    sums x (ix2 i k) = ((before (h · k) (i.val + 1) : ℝ) : EReal) := by
  rw [← sum_before _ _ i.isLt, ← sum_window _ _ i.isLt, ← Fin.sum_univ_eq_sum_range
    (fun n => if 63 ≤ i.val + n then ((if h' : i.val + n - 63 < 64 then h ⟨i.val + n - 63, h'⟩ k else 0 : ℝ) : EReal) else 0)]
  unfold sums
  show Host.reduceWindow (fun a b : EReal => a + b) ![64, 1] ![1, 1] ![63, 0] ![0, 0] x (fun _ : (⟨0, ![]⟩ : Shape).Idx => _)
    reduceWindows_S64x704_S64x704_w64s1p63_0_w1s1p0_0 _ (ix2 i k) = _
  unfold Host.reduceWindow
  dsimp only
  rw [foldl_add]
  rw [← Fin.sum_univ_def, ← Equiv.sum_comp ((Shape.rowMajor win).symm.symm), ← Equiv.sum_comp winEquiv]
  have hv : broadcastInDim S_ ![] bcast_S_S_ (constant (F := Ideal) S_ FTy.f32 0#32) (Shape.Idx.first h_S_) = (0 : EReal) :=
    Ideal.ofBits_zero_f32
  rw [hv, zero_add]
  refine Finset.sum_congr rfl fun n _ => ?_
  have hz : (Shape.rowMajor win).symm ((Shape.rowMajor win).symm.symm (winEquiv n)) = ix2 n (0 : Fin 1) :=
    (Shape.rowMajor win).symm_apply_apply _
  by_cases hc : 63 ≤ i.val + n.val
  · have hn : i.val + n.val - 63 < 64 := by omega
    rw [if_pos hc, dif_pos hn, ← h0, dif_pos]
    · congr 1
      funext a
      apply Fin.ext
      fin_cases a
      · show i.val * 1 + ((Shape.rowMajor win).symm ((Shape.rowMajor win).symm.symm (winEquiv n)) 0).val - 63 = i.val + n.val - 63
        rw [hz]
        show i.val * 1 + n.val - 63 = _
        omega
      · show k.val * 1 + ((Shape.rowMajor win).symm ((Shape.rowMajor win).symm.symm (winEquiv n)) 1).val - 0 = k.val
        rw [hz]
        show k.val * 1 + 0 - 0 = _
        omega
    · intro a
      fin_cases a
      · show 63 ≤ i.val * 1 + ((Shape.rowMajor win).symm ((Shape.rowMajor win).symm.symm (winEquiv n)) 0).val
          ∧ i.val * 1 + ((Shape.rowMajor win).symm ((Shape.rowMajor win).symm.symm (winEquiv n)) 0).val - 63 < 64
        rw [hz]
        show 63 ≤ i.val * 1 + n.val ∧ i.val * 1 + n.val - 63 < 64
        omega
      · show 0 ≤ k.val * 1 + ((Shape.rowMajor win).symm ((Shape.rowMajor win).symm.symm (winEquiv n)) 1).val
          ∧ k.val * 1 + ((Shape.rowMajor win).symm ((Shape.rowMajor win).symm.symm (winEquiv n)) 1).val - 0 < 704
        rw [hz]
        show 0 ≤ k.val * 1 + 0 ∧ k.val * 1 + 0 - 0 < 704
        omega
  · rw [if_neg hc, dif_neg]
    intro hin
    have h63 : 63 ≤ i.val * 1 + ((Shape.rowMajor win).symm ((Shape.rowMajor win).symm.symm (winEquiv n)) 0).val := (hin 0).1
    rw [hz] at h63
    have h63' : 63 ≤ i.val * 1 + n.val := h63
    omega

theorem before_zero (y : Fin 64 → ℝ) : before y 0 = 0 := by simp [before]

theorem prefixes_at (h0 : ∀ i k, x (ix2 i k) = ((h i k : ℝ) : EReal)) (i : Fin 65) (k : Fin 704) :
    prefixes zeroRow (sums x) (ix2 i k) = ((before (h · k) i.val : ℝ) : EReal) := by
  have hs := sums_at h0
  unfold prefixes zeroRow
  generalize sums x = s at hs ⊢
  pointwise
  by_cases hi : i.val < 1
  · rw [dif_pos hi, show i.val = 0 by omega, before_zero, EReal.coe_zero]
  · rw [dif_neg hi, hs]
    congr 2
    show i.val - 1 + 1 = i.val
    omega

theorem max_word (a b : ℕ) (ha : a < 2 ^ 31) (hb : b < 2 ^ 31) :
    IntOp.maxsi (BitVec.ofNat 32 a) (BitVec.ofNat 32 b) = BitVec.ofNat 32 (max a b) := by
  unfold IntOp.maxsi
  rw [BitVec.slt_eq_decide, toInt_word a ha, toInt_word b hb]
  by_cases hab : a < b
  · rw [Nat.max_eq_right hab.le]
    simp [hab]
    omega
  · rw [Nat.max_eq_left (by omega)]
    simp [hab]
    intro h'
    rw [show a = b by omega]

theorem mean_at (h0 : ∀ i k, x (ix2 i k) = ((h i k : ℝ) : EReal)) (i e : Fin 64) (hie : i.val ≤ e.val) (k : Fin 704) :
    spanMean (prefixes zeroRow (sums x)) (ix3 i e k)
      = (((before (h · k) (e.val + 1) - before (h · k) i.val) * (1 / ((e.val + 1 - i.val : ℕ) : ℝ)) : ℝ) : EReal) := by
  have hp := prefixes_at h0
  generalize prefixes zeroRow (sums x) = p at hp ⊢
  unfold spanMean spanLength
  pointwise
  rw [show (1#32 : BitVec 32) = BitVec.ofNat 32 1 from rfl, add_word, sub_word _ _ (by omega), max_word _ _ (by omega) (by omega),
    Nat.max_eq_left (by omega), float_word _ (by omega), Ideal.div_coe (by have : 0 < e.val + 1 - i.val := by omega
                                                                           positivity), hp, hp, ← EReal.coe_sub, ← EReal.coe_mul]
  show ((((before (h · k) (1 + e.val) - before (h · k) i.val) * (1 / ((e.val + 1 - i.val : ℕ) : ℝ)) : ℝ)) : EReal) = _
  rw [show 1 + e.val = e.val + 1 from Nat.add_comm _ _]

/-! ## The hidden layer -/

/-- A sum over the three blocks of 704 rows. -/
theorem sum_blocks (f : Fin 2112 → EReal) : ∑ k, f k = (∑ k : Fin 704, f ⟨0 + k.val, by omega⟩) + (∑ k : Fin 704, f ⟨704 + k.val, by omega⟩)
    + ∑ k : Fin 704, f ⟨1408 + k.val, by omega⟩ := by
  have e : ∀ (o : ℕ) (ho : o + 704 ≤ 2112), (∑ k : Fin 704, f ⟨o + k.val, by omega⟩)
      = ∑ k ∈ Finset.range 704, (if hk : o + k < 2112 then f ⟨o + k, hk⟩ else 0) := fun o ho => by
    rw [← Fin.sum_univ_eq_sum_range (fun k => if hk : o + k < 2112 then f ⟨o + k, hk⟩ else 0)]
    exact Finset.sum_congr rfl fun k _ => by rw [dif_pos]
  have e2 : ∑ k, f k = ∑ k ∈ Finset.range (704 + 704 + 704), (if hk : k < 2112 then f ⟨k, hk⟩ else 0) := by
    rw [show 704 + 704 + 704 = 2112 from rfl, ← Fin.sum_univ_eq_sum_range (fun k => if hk : k < 2112 then f ⟨k, hk⟩ else 0)]
    exact Finset.sum_congr rfl fun k _ => by rw [dif_pos k.isLt]
  rw [e2, Finset.sum_range_add, Finset.sum_range_add, e 0 (by omega), e 704 (by omega), e 1408 (by omega)]
  simp only [Nat.zero_add]

/-- The prefix sums of projections are the projections of prefix sums. -/
theorem before_proj (w : Weights) (j : ℕ) (c : Fin 1024) :
    before (projMean h w · c) j = ∑ k : Fin 704, before (h · k) j * w.mean k c := by
  simp only [before, Finset.sum_mul]
  rw [Finset.sum_comm]
  refine Finset.sum_congr rfl fun q _ => ?_
  by_cases hq : q.val < j
  · simp only [if_pos hq]; rfl
  · simp only [if_neg hq, zero_mul, Finset.sum_const_zero]

variable {W1 : FVec Ideal S2112x1024 .f32} {b1 : FVec Ideal S1024 .f32} {w : Weights}

/-- The representation of a span, as real numbers. -/
def repr (h : Fin 64 → Fin 704 → ℝ) (i e : Fin 64) (k : Fin 2112) : ℝ :=
  if hk : k.val < 704 then h i ⟨k.val, hk⟩
  else if hk2 : k.val - 704 < 704 then h e ⟨k.val - 704, hk2⟩
  else (before (h · ⟨k.val - 704 - 704, by omega⟩) (e.val + 1) - before (h · ⟨k.val - 704 - 704, by omega⟩) i.val)
    * (1 / ((e.val + 1 - i.val : ℕ) : ℝ))

theorem rep_at (h0 : ∀ i k, x (ix2 i k) = ((h i k : ℝ) : EReal)) (i e : Fin 64) (hie : i.val ≤ e.val) (k : Fin 2112) :
    spanRep x (prefixes zeroRow (sums x)) (ix3 i e k) = ((repr h i e k : ℝ) : EReal) := by
  have hm := mean_at h0 i e hie
  generalize prefixes zeroRow (sums x) = p at hm ⊢
  unfold spanRep
  pointwise
  unfold repr
  by_cases h1 : k.val < 704
  · rw [dif_pos h1, dif_pos h1, h0]
  · rw [dif_neg h1, dif_neg h1]
    by_cases h2 : k.val - 704 < 704
    · rw [dif_pos h2, dif_pos h2, h0]
    · rw [dif_neg h2, dif_neg h2, hm]

theorem repr_lin (h1 : Blocks (fun k c => W1 (ix2 k c)) w) (i e : Fin 64) (c : Fin 1024) :
    ∑ k : Fin 2112, ((repr h i e k : ℝ) : EReal) * W1 (ix2 k c) = lin h w i e c := by
  rw [sum_blocks, lin, before_proj, before_proj, ← Finset.sum_sub_distrib, Finset.mul_sum, coe_sum, projFirst, projLast]
  refine congrArg₂ (· + ·) (congrArg₂ (· + ·) ?_ ?_) ?_ <;> refine Finset.sum_congr rfl fun k _ => ?_
  · rw [repr, dif_pos (show 0 + k.val < 704 by omega), ← h1.first]
    congr 3
    exact Fin.ext (Nat.zero_add _)
  · rw [repr, dif_neg (show ¬ 704 + k.val < 704 by omega), dif_pos (show 704 + k.val - 704 < 704 by omega), ← h1.last]
    congr 3
    exact Fin.ext (Nat.add_sub_cancel_left _ _)
  · rw [repr, dif_neg (show ¬ 1408 + k.val < 704 by omega), dif_neg (show ¬ 1408 + k.val - 704 < 704 by omega)]
    have ek : (⟨1408 + k.val - 704 - 704, by omega⟩ : Fin 704) = k := Fin.ext (by show 1408 + k.val - 704 - 704 = k.val; omega)
    have em : W1 (ix2 ⟨1408 + k.val, by omega⟩ c) = ((w.mean k c : ℝ) : EReal) := h1.mean k c
    rw [em, ← EReal.coe_mul]
    simp only [ek]
    congr 1
    ring

/-- The hidden layer of the span from `i` to `e`. -/
theorem hidden_at (h0 : ∀ i k, x (ix2 i k) = ((h i k : ℝ) : EReal)) (h1 : Blocks (fun k c => W1 (ix2 k c)) w)
    (i e : Fin 64) (hie : i.val ≤ e.val) (c : Fin 1024) :
    hidden x W1 b1 (ix3 i e c) = hid h w (fun c => b1 (ix1 c)) i e c := by
  have hr := rep_at h0 i e hie
  unfold hidden
  generalize spanRep x (prefixes zeroRow (sums x)) = s at hr ⊢
  pointwise
  rw [hid, ← repr_lin h1]
  simp only [hr]

end Cert.ReferenceIdeal.Stage

end
-- ==== Proof.RefScores.lean ====
/- The reference's scores at a span, for a hidden layer that is `hd` on every span: label scores, best label, gold sum and tag loss. -/
module

public import proofs.«01_k».proof.Proof.RefHidden

@[expose] public section

set_option maxRecDepth 8192

noncomputable section

namespace Cert.ReferenceIdeal.Stage

open Cert.ReferenceIdeal Cert.ReferenceIdeal.Gen Cert.Words Cert.Span
open Idealize.ShloMosaic
open scoped BigOperators

theorem neg_inf : Ideal.ofBits FTy.f32 4286578688#32 = ⊥ := by
  simp [Ideal.ofBits, Ideal.ieee]

variable {H : FVec Ideal S64x64x1024 .f32} {hd : Fin 64 → Fin 64 → Fin 1024 → EReal} {W2 : FVec Ideal S1024x256 .f32}
  {b2 : FVec Ideal S256 .f32} {Wt : FVec Ideal S1024x64 .f32} {bt : FVec Ideal S64 .f32}

/-- The label scores of the spans, augmented. -/
theorem augmented_at (hH : ∀ i e c, i.val ≤ e.val → H (ix3 i e c) = hd i e c) (i e : Fin 64) (hie : i.val ≤ e.val) (l : Fin 256) :
    augmented (labels H W2 b2) (ix3 i e l) = aug hd (fun c l => W2 (ix2 c l)) (fun l => b2 (ix1 l)) i e l := by
  have hl : labels H W2 b2 (ix3 i e l) = lab hd (fun c l => W2 (ix2 c l)) (fun l => b2 (ix1 l)) i e l := by
    unfold labels
    pointwise
    rw [lab, Finset.sum_congr rfl fun c _ => by rw [hH i e c hie]]
  generalize labels H W2 b2 = f at hl ⊢
  unfold augmented isGold
  pointwise
  rw [show (63#32 : BitVec 32) = BitVec.ofNat 32 63 from rfl, show (0#32 : BitVec 32) = BitVec.ofNat 32 0 from rfl,
    slt_bit _ _ (by omega) (by omega), eq_bit _ _ (by omega) (by omega), eq_bit _ _ (by omega) (by omega), andi_bit, andi_bit,
    select_bit, hl, aug]
  simp only [and_assoc]

variable {f : FVec Ideal S64x64x256 .f32} {w2 : Fin 1024 → Fin 256 → EReal} {c2 : Fin 256 → EReal}

theorem score_at (hf : ∀ i e l, i.val ≤ e.val → f (ix3 i e l) = aug hd w2 c2 i e l) (i e : Fin 64) (hie : i.val ≤ e.val) :
    spanScore f (ix2 i e) = best hd w2 c2 i e := by
  unfold spanScore
  pointwise
  rw [neg_inf, best]
  exact Finset.fold_congr fun l _ => hf i e l hie

/-- The score of a span by its end points. -/
theorem matrix_at (hf : ∀ i e l, i.val ≤ e.val → f (ix3 i e l) = aug hd w2 c2 i e l) (i j : Fin 65) (hij : i.val < j.val) :
    scoreMat (spanScore f) (ix2 i j) = score hd w2 c2 (j.val - i.val) i.val := by
  have hs := score_at hf
  generalize spanScore f = s at hs ⊢
  unfold scoreMat
  pointwise
  rw [dif_pos ⟨by omega, by omega, by omega⟩, score, dif_pos ⟨by omega, by omega⟩, hs _ _ (by show i.val ≤ j.val - 1; omega)]
  congr 1
  apply Fin.ext
  show j.val - 1 = i.val + (j.val - i.val) - 1
  omega

theorem gold_at (hf : ∀ i e l, i.val ≤ e.val → f (ix3 i e l) = aug hd w2 c2 i e l) :
    goldSum f ix0 = ∑ i ∈ Finset.range 63, goldAt hd w2 c2 i := by
  unfold goldSum
  pointwise
  rw [← Fin.sum_univ_eq_sum_range]
  refine Finset.sum_congr rfl fun i _ => ?_
  rw [goldAt, dif_pos (by omega), hf _ _ _ (by show i.val ≤ 63; omega)]

/-- Minus the mean of 63 numbers plus a common one, whatever the common one is. -/
theorem mean_bias (T : Fin 63 → EReal) (b : EReal) : -((∑ i, (T i + b)) * ((1 / 63 : ℝ) : EReal)) = 0 - ((∑ i, T i) * ((1 / 63 : ℝ) : EReal) + b) := by
  have hp : (0 : EReal) ≤ ((1 / 63 : ℝ) : EReal) := EReal.coe_nonneg.mpr (by norm_num)
  have hb : ((1 / 63 : ℝ) : EReal) * (((63 : ℝ) : EReal) * b) = b := by
    rw [← mul_assoc, ← EReal.coe_mul, show (1 / 63 * 63 : ℝ) = 1 by norm_num, EReal.coe_one, one_mul]
  rw [Finset.sum_add_distrib, Finset.sum_const, Finset.card_univ, Fintype.card_fin, EReal.nsmul_eq_mul, mul_comm,
    EReal.left_distrib_of_nonneg_of_ne_top hp (EReal.coe_ne_top _), sub_eq_add_neg, zero_add,
    show (((63 : ℕ) : EReal)) = ((63 : ℝ) : EReal) from rfl, hb, mul_comm]

theorem tag_at (hH : ∀ i e c, i.val ≤ e.val → H (ix3 i e c) = hd i e c) :
    tagLoss H Wt bt ix0 = 0 - ((∑ i ∈ Finset.range 63, tagAt hd (fun c => Wt (ix2 c 0)) i) * ((1 / 63 : ℝ) : EReal) + bt (ix1 0)) := by
  have h63 : Ideal.ofBits FTy.f32 1115422720#32 = ((63 : ℝ) : EReal) := by
    simp [Ideal.ofBits, Ideal.ieee, -EReal.coe_mul]; norm_num
  unfold tagLoss
  pointwise
  rw [h63, Ideal.div_coe (by norm_num), mean_bias, ← Fin.sum_univ_eq_sum_range]
  congr 3
  refine Finset.sum_congr rfl fun i _ => ?_
  rw [tagAt, dif_pos (by omega)]
  exact Finset.sum_congr rfl fun c _ => by rw [hH _ _ _ (by show i.val ≤ 63; omega)]

end Cert.ReferenceIdeal.Stage

end
-- ==== Proof.RefRun.lean ====
/- The reference run as a whole: its arguments stay, its semaphores stay at zero, and its result is `value` of its arguments. -/
module

public import proofs.«01_k».proof.Proof.RefStages

@[expose] public section

set_option maxRecDepth 8192

noncomputable section

namespace Cert.ReferenceIdeal.Stage

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-! ## The value -/

/-- The chart after `k` steps. -/
def charts (sc : FVec F S65x65 .f32) : ℕ → FVec F S65x65 .f32
  | 0 => broadcastInDim S65x65 ![] bcast_S_S65x65 (constant S_ .f32 0x00000000#32)
  | k + 1 => chartStep sc (constantI S_ 32 (BitVec.ofNat 32 k)) (charts sc k)

/-- The reference's result from the token features and the parameters. -/
def value (h : FVec F S64x704 .f32) (W1 : FVec F S2112x1024 .f32) (b1 : FVec F S1024 .f32) (W2 : FVec F S1024x256 .f32)
    (b2 : FVec F S256 .f32) (Wt : FVec F S1024x64 .f32) (bt : FVec F S64 .f32) : FVec F S1x1 .f32 :=
  loss (charts (scoreMat (spanScore (augmented (labels (hidden h W1 b1) W2 b2)))) 63)
    (goldSum (augmented (labels (hidden h W1 b1) W2 b2))) (tagLoss (hidden h W1 b1) Wt bt)

/-! ## What the lists leave alone -/

/-- The references the operations before the loop write. -/
abbrev pre_W : List (Ref sig .tc) :=
  hostOps0_W ++ hostOps0_1_W ++ hostOps0_2_W ++ hostOps0_3_W ++ hostOps0_4_W ++ hostOps0_5_W ++ hostOps0_6_W ++ hostOps0_7_W ++ hostOps0_8_W

/-- The references one trip writes. -/
abbrev trip_W : List (Ref sig .tc) :=
  condOps_W ++ while0Ops0_W ++ while0Ops0_1_W ++ while0Ops0_2_W ++ while0Ops0_3_W ++ while0Ops0_4_W

/-- The references the operations after the loop write. -/
abbrev post_W : List (Ref sig .tc) :=
  [main_v101, main_v102, main_v103, main_call6_cst, main_v104, main_cst_21, main_v105, main_v106, main_v107]

variable (V : Valuation τ sig (Elt F))

theorem pre_keep (r : Ref sig .tc) (h : r ∉ pre_W) : afterL preI V (Proc.devRef .tc r) = V (Proc.devRef .tc r) := by
  simp only [pre_W, List.mem_append, not_or] at h
  obtain ⟨⟨⟨⟨⟨⟨⟨⟨h0, h1⟩, h2⟩, h3⟩, h4⟩, h5⟩, h6⟩, h7⟩, h8⟩ := h
  simp only [preI, afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

theorem trip_keep (r : Ref sig .tc) (h : r ∉ trip_W) :
    afterL bodyI (after condOps V) (Proc.devRef .tc r) = V (Proc.devRef .tc r) := by
  simp only [trip_W, List.mem_append, not_or] at h
  obtain ⟨⟨⟨⟨⟨hc, h0⟩, h1⟩, h2⟩, h3⟩, h4⟩ := h
  simp only [bodyI, afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

theorem post_writes : (postI.flatten : List (HloOp τ sig (Elt F))).Forall fun op =>
    op.writes ⊆ (post_W.map (Proc.devRef (τ := τ) .tc)).toFinset :=
  StableHlo.forall_writes_sub_of_map rfl

theorem post_keep (r : Ref sig .tc) (h : r ∉ post_W) : afterL postI V (Proc.devRef .tc r) = V (Proc.devRef .tc r) := by
  rw [afterL_eq_after_flatten]
  exact after_of_writes_sub _ _ post_writes h

variable (m : (ℓ : Loc nD τ sig) → Buf (Elt F) ℓ) (ρ : Dev nD → PrngReg)

theorem loop_keep (c : Dev nD) (r : Ref sig .tc) (h : r ∉ trip_W) : ∀ k,
    atK m k c (Proc.devRef .tc r) = entryContents preI m c (Proc.devRef .tc r)
  | 0 => rfl
  | k + 1 => (trip_keep (atK m k c) r h).trans (loop_keep c r h k)

/-- A reference that no operation writes holds at the end what it held at launch. -/
theorem final_keep (c : Dev nD) (r : Ref sig .tc) (h0 : r ∉ pre_W) (h1 : r ∉ trip_W) (h2 : r ∉ post_W) :
    finalContents condOps preI bodyI postI 63 m c (Proc.devRef .tc r) = m (c, Proc.devRef .tc r) := by
  show afterL postI (after condOps (atK m 63 c)) (Proc.devRef .tc r) = _
  rw [post_keep _ r h2, after_of_writes_sub _ _ condOps_writes (fun hm => h1 (by simp only [trip_W, List.mem_append]; tauto)),
    loop_keep m c r h1 63]
  exact pre_keep _ r h0

/-! ## The contents at the loop's entry -/

/-- The reference's `value` of the arguments that valuation `V` holds. -/
def tokensOf : FVec F S64x704 .f32 :=
  tokens (V (Proc.devRef .tc main_arg0)) (V (Proc.devRef .tc main_arg1)) (V (Proc.devRef .tc main_arg2))
        (V (Proc.devRef .tc main_arg4)) (V (Proc.devRef .tc main_arg5)) (V (Proc.devRef .tc main_arg6))

/-- The hidden layer of those arguments. -/
def hiddenOf : FVec F S64x64x1024 .f32 := hidden (tokensOf V) (V (Proc.devRef .tc main_arg7)) (V (Proc.devRef .tc main_arg8))

/-- The label scores of those arguments. -/
def labelsOf : FVec F S64x64x256 .f32 := labels (hiddenOf V) (V (Proc.devRef .tc main_arg9)) (V (Proc.devRef .tc main_arg10))

/-- The contents once the hidden layer is computed. -/
abbrev V3 : Valuation τ sig (Elt F) := after hostOps0_3 (after hostOps0_2 (after hostOps0_1 (after hostOps0 V)))

theorem V3_hidden : V3 V (Proc.devRef .tc main_v55) = hiddenOf V := by
  rw [V3, ops3_relu, ops2_hidden, ops1_sums,
    after_of_writes_sub _ (after hostOps0 V) hostOps0_1_writes (show main_v24 ∉ hostOps0_1_W by decide),
    after_of_writes_sub _ (after hostOps0 V) hostOps0_1_writes (show main_v25 ∉ hostOps0_1_W by decide),
    after_of_writes_sub _ (after hostOps0 V) hostOps0_1_writes (show main_arg7 ∉ hostOps0_1_W by decide),
    after_of_writes_sub _ (after hostOps0 V) hostOps0_1_writes (show main_arg8 ∉ hostOps0_1_W by decide),
    after_of_writes_sub _ V hostOps0_writes (show main_arg7 ∉ hostOps0_W by decide),
    after_of_writes_sub _ V hostOps0_writes (show main_arg8 ∉ hostOps0_W by decide), ops0_tokens, ops0_zero]
  rfl

theorem V3_keep (r : Ref sig .tc) (h0 : r ∉ hostOps0_W) (h1 : r ∉ hostOps0_1_W) (h2 : r ∉ hostOps0_2_W) (h3 : r ∉ hostOps0_3_W) :
    V3 V (Proc.devRef .tc r) = V (Proc.devRef .tc r) := by
  rw [V3, after_of_writes_sub _ _ hostOps0_3_writes h3, after_of_writes_sub _ _ hostOps0_2_writes h2,
    after_of_writes_sub _ _ hostOps0_1_writes h1, after_of_writes_sub _ _ hostOps0_writes h0]

/-- The contents once the label scores are augmented. -/
abbrev V5 : Valuation τ sig (Elt F) := after hostOps0_5 (after hostOps0_4 (V3 V))

theorem V5_labels : V5 V (Proc.devRef .tc main_v73) = augmented (labelsOf V) := by
  rw [V5, ops5_where, ops4_gold, ops4_less, ops4_labels, V3_hidden, V3_keep V main_arg9 (by decide) (by decide) (by decide) (by decide),
    V3_keep V main_arg10 (by decide) (by decide) (by decide) (by decide)]
  rfl

theorem V5_keep (r : Ref sig .tc) (h4 : r ∉ hostOps0_4_W) (h5 : r ∉ hostOps0_5_W) :
    V5 V (Proc.devRef .tc r) = V3 V (Proc.devRef .tc r) := by
  rw [V5, after_of_writes_sub _ _ hostOps0_5_writes h5, after_of_writes_sub _ _ hostOps0_4_writes h4]

theorem pre_eq : afterL preI V = after hostOps0_8 (after hostOps0_7 (after hostOps0_6 (V5 V))) := rfl

theorem pre_gold : afterL preI V (Proc.devRef .tc main_v76) = goldSum (augmented (labelsOf V)) := by
  rw [pre_eq, after_of_writes_sub _ _ hostOps0_8_writes (show main_v76 ∉ hostOps0_8_W by decide),
    after_of_writes_sub _ _ hostOps0_7_writes (show main_v76 ∉ hostOps0_7_W by decide), ops6_gold, V5_labels]

theorem pre_tag : afterL preI V (Proc.devRef .tc main_v88)
    = tagLoss (hiddenOf V) (V (Proc.devRef .tc main_arg11)) (V (Proc.devRef .tc main_arg12)) := by
  rw [pre_eq, after_of_writes_sub _ _ hostOps0_8_writes (show main_v88 ∉ hostOps0_8_W by decide),
    after_of_writes_sub _ _ hostOps0_7_writes (show main_v88 ∉ hostOps0_7_W by decide), ops6_tag,
    V5_keep V main_v55 (by decide) (by decide), V5_keep V main_arg11 (by decide) (by decide), V5_keep V main_arg12 (by decide) (by decide),
    V3_hidden, V3_keep V main_arg11 (by decide) (by decide) (by decide) (by decide),
    V3_keep V main_arg12 (by decide) (by decide) (by decide) (by decide)]

theorem pre_score : afterL preI V (Proc.devRef .tc main_v100_2) = scoreMat (spanScore (augmented (labelsOf V))) := by
  rw [pre_eq, ops8_score, ops7_pad _ (ops6_word _), ops6_score, V5_labels]

/-! ## The loop -/

theorem iter_const (k : ℕ) :
    STEP^[k] V (Proc.devRef .tc main_v100_0) = V (Proc.devRef .tc main_v100_0)
    ∧ STEP^[k] V (Proc.devRef .tc main_v100_1) = V (Proc.devRef .tc main_v100_1)
    ∧ STEP^[k] V (Proc.devRef .tc main_v100_2) = V (Proc.devRef .tc main_v100_2) := by
  induction k with
  | zero => exact ⟨rfl, rfl, rfl⟩
  | succ k ih =>
    rw [Function.iterate_succ_apply', STEP_main_v100_0, STEP_main_v100_1, STEP_main_v100_2]
    exact ih

theorem iter_counter (h4 : V (Proc.devRef .tc main_v100_4) = constantI S_ 32 0#32) (k : ℕ) :
    STEP^[k] V (Proc.devRef .tc main_v100_4) = constantI S_ 32 (BitVec.ofNat 32 k) := by
  induction k with
  | zero => exact h4
  | succ k ih =>
    rw [Function.iterate_succ_apply', STEP_main_v100_4, step_main_v100_4, ih]
    funext j
    show BitVec.ofNat 32 k + 1#32 = BitVec.ofNat 32 (k + 1)
    exact (BitVec.ofNat_add k 1).symm

theorem iter_chart (h0 : V (Proc.devRef .tc main_v100_0) = isInside) (h1 : V (Proc.devRef .tc main_v100_1) = lengthMat)
    (h4 : V (Proc.devRef .tc main_v100_4) = constantI S_ 32 0#32)
    (h5 : V (Proc.devRef .tc main_v100_5) = broadcastInDim S65x65 ![] bcast_S_S65x65 (constant S_ .f32 0x00000000#32)) (k : ℕ) :
    STEP^[k] V (Proc.devRef .tc main_v100_5) = charts (V (Proc.devRef .tc main_v100_2)) k := by
  induction k with
  | zero => exact h5
  | succ k ih =>
    rw [Function.iterate_succ_apply', step_best _ ((iter_const V k).1.trans h0) ((iter_const V k).2.1.trans h1),
      (iter_const V k).2.2, iter_counter V h4 k, ih]
    rfl

/-! ## The run -/

/-- What the reference's result buffer holds at the end. -/
theorem final_value (c : Dev nD) : finalContents condOps preI bodyI postI 63 m c (Proc.devRef .tc main_v107)
    = value (tokensOf (fun b => m (c, b))) (m (c, Proc.devRef .tc main_arg7)) (m (c, Proc.devRef .tc main_arg8))
        (m (c, Proc.devRef .tc main_arg9)) (m (c, Proc.devRef .tc main_arg10)) (m (c, Proc.devRef .tc main_arg11))
        (m (c, Proc.devRef .tc main_arg12)) := by
  show afterL postI (after condOps (atK m 63 c)) (Proc.devRef .tc main_v107) = _
  rw [post_loss, after_of_writes_sub _ _ condOps_writes (show main_v100_5 ∉ condOps_W by decide),
    after_of_writes_sub _ _ condOps_writes (show main_v76 ∉ condOps_W by decide),
    after_of_writes_sub _ _ condOps_writes (show main_v88 ∉ condOps_W by decide),
    loop_keep m c main_v76 (by decide) 63, loop_keep m c main_v88 (by decide) 63,
    atK_agree m c 63 main_v100_5 (by decide)]
  have e : entryContents preI m c = afterL preI (fun b => m (c, b)) := rfl
  rw [e, iter_chart _ (by rw [pre_eq, ops8_inside]) (by rw [pre_eq, ops8_length]) (by rw [pre_eq, ops8_counter])
    (by rw [pre_eq, ops8_best]), pre_score, pre_gold, pre_tag]
  rfl

/-- The reference run from any launch: the result is `value` of the arguments, and every argument is what it was. -/
theorem run_value : θ_run (defs (F := F)) (onTc (τ := τ) (main (F := F))) ⟨m, fun _ => 0, ρ⟩ (fun r => ∀ c : Dev nD,
      r.2.mem ((c.tc : Thread nD τ).loc main_v107)
        = value (tokensOf (fun b => m (c, b))) (m (c, Proc.devRef .tc main_arg7)) (m (c, Proc.devRef .tc main_arg8))
        (m (c, Proc.devRef .tc main_arg9)) (m (c, Proc.devRef .tc main_arg10)) (m (c, Proc.devRef .tc main_arg11))
        (m (c, Proc.devRef .tc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run _ _ _).mono (fun r h c => ⟨(h c main_v107 rfl).trans (final_value m c), ?_⟩) (run_fold m ρ)
  refine ⟨?_, ?_, ?_, ?_, ?_, ?_, ?_, ?_, ?_, ?_, ?_, ?_, ?_⟩ <;>
    exact (h c _ rfl).trans (final_keep m c _ (by decide) (by decide) (by decide))

/-- The reference's frame: every argument is what it was, and every semaphore is at zero. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0) :=
  (θ_run _ _ _).mono (fun r h => ⟨fun c => (h c).2, sem_eq_zero_of_no_sems (by decide) r.2⟩) (run_value m ρ)

end Cert.ReferenceIdeal.Stage

end
-- ==== Proof.RefChart.lean ====
/- The reference's chart: after `t` steps the entry at start `i` and end `j` is the best parse of that span, for every span of at most
   `t + 1` tokens. With the scores and sums this gives the reference's result. -/
module

public import proofs.«01_k».proof.Proof.RefScores
public import proofs.«01_k».proof.Proof.RefRun

@[expose] public section

set_option maxRecDepth 8192

noncomputable section

namespace Cert.ReferenceIdeal.Stage

open Cert.ReferenceIdeal Cert.ReferenceIdeal.Gen Cert.Words Cert.Span
open Idealize.ShloMosaic
open scoped BigOperators

section Chart

variable {s : ℕ → ℕ → EReal} {sc : FVec Ideal S65x65 .f32}

/-- The maximum over all split positions, minus infinity outside the span, is the maximum over the splits of the span. -/
theorem split_max {best : FVec Ideal S65x65 .f32} {t : ℕ} (i j : Fin 65) (hij : i.val < j.val) (hn : 2 ≤ j.val - i.val)
    (hb : ∀ a b : Fin 65, a.val < b.val → b.val - a.val < j.val - i.val → best (ix2 a b) = parse s (b.val - a.val) a.val) :
    (Finset.univ.fold max ⊥ fun x : Fin 65 => if i.val < x.val ∧ x.val < j.val then best (ix2 i x) + best (ix2 x j) else ⊥)
      = (Finset.univ : Finset (Fin (j.val - i.val - 1))).fold max ⊥ fun k =>
          parse s (k.val + 1) i.val + parse s (j.val - i.val - 1 - k.val) (i.val + k.val + 1) := by
  have key : ∀ (x : Fin 65) (k : ℕ), x.val = i.val + k + 1 → x.val < j.val →
      best (ix2 i x) + best (ix2 x j) = parse s (k + 1) i.val + parse s (j.val - i.val - 1 - k) (i.val + k + 1) := fun x k hx hxj => by
    rw [hb i x (by omega) (by omega), hb x j hxj (by omega), show x.val - i.val = k + 1 by omega, show j.val - x.val = j.val - i.val - 1 - k by omega, hx]
  apply max_eq
  · intro x
    by_cases hx : i.val < x.val ∧ x.val < j.val
    · refine .inr ⟨⟨x.val - i.val - 1, by omega⟩, ?_⟩
      rw [if_pos hx]
      exact key x _ (by show x.val = i.val + (x.val - i.val - 1) + 1; omega) hx.2
    · exact .inl (if_neg hx)
  · intro k
    have hk := k.isLt
    refine ⟨⟨i.val + k.val + 1, by omega⟩, ?_⟩
    rw [if_pos ⟨by show i.val < i.val + k.val + 1; omega, by show i.val + k.val + 1 < j.val; omega⟩]
    exact (key ⟨i.val + k.val + 1, by omega⟩ k.val rfl (by show i.val + k.val + 1 < j.val; omega)).symm

theorem charts_at (hs : ∀ i j : Fin 65, i.val < j.val → sc (ix2 i j) = s (j.val - i.val) i.val) (t : ℕ) (ht : t ≤ 63) :
    ∀ i j : Fin 65, i.val < j.val → j.val - i.val ≤ t + 1 → charts sc t (ix2 i j) = parse s (j.val - i.val) i.val := by
  induction t with
  | zero =>
    intro i j hij h1
    rw [show j.val - i.val = 1 by omega, parse_one]
    unfold charts
    pointwise
  | succ t ih =>
    intro i j hij h1
    have hprev := ih (by omega)
    unfold charts
    generalize charts sc t = best at hprev ⊢
    unfold chartStep lengthMat isInside
    pointwise
    rw [show (2#32 : BitVec 32) = BitVec.ofNat 32 2 from rfl]
    simp (disch := omega) only [add_word, sub_word, eq_bit, slt_bit, andi_bit, select_bit, neg_inf]
    by_cases hl : j.val - i.val = t + 2
    · rw [if_pos hl, hs i j hij, parse_step _ _ _ (by omega)]
      refine congrArg₂ (· + ·) rfl (split_max (t := t) i j hij (by omega) fun a b hab hlt => hprev a b hab (by omega))
    · rw [if_neg hl]
      exact hprev i j hij (by omega)

end Chart

section Value

variable {x : FVec Ideal S64x704 .f32} {h : Fin 64 → Fin 704 → ℝ} {W1 : FVec Ideal S2112x1024 .f32} {w : Weights}
  {b1 : FVec Ideal S1024 .f32} {W2 : FVec Ideal S1024x256 .f32} {b2 : FVec Ideal S256 .f32} {Wt : FVec Ideal S1024x64 .f32}
  {bt : FVec Ideal S64 .f32}

theorem loss_eq {C : FVec Ideal S65x65 .f32} {G T : FVec Ideal S_ .f32} {p g t b : EReal} (hc : C (ix2 0 64) = p) (hg : G ix0 = g)
    (ht : T ix0 = 0 - (t * ((1 / 63 : ℝ) : EReal) + b)) (j : S1x1.Idx) : loss C G T j = Cert.Span.loss p g t b := by
  have hj : j = ix2 0 0 := by
    funext a
    fin_cases a <;> exact Subsingleton.elim (α := Fin 1) _ _
  have h63 : Ideal.ofBits FTy.f32 1115422720#32 = ((63 : ℝ) : EReal) := by
    simp [Ideal.ofBits, Ideal.ieee, -EReal.coe_mul]; norm_num
  rw [hj]
  unfold loss
  pointwise
  rw [h63, Ideal.div_coe (by norm_num), hg, ht, hc, Cert.Span.loss]

/-- The finished chart's entry from the first token to the last. -/
theorem charts_top {s : ℕ → ℕ → EReal} {sc : FVec Ideal S65x65 .f32}
    (hs : ∀ i j : Fin 65, i.val < j.val → sc (ix2 i j) = s (j.val - i.val) i.val) : charts sc 63 (ix2 0 64) = parse s 64 0 := by
  have hc := charts_at hs 63 (by omega) ⟨0, by omega⟩ ⟨64, by omega⟩ (by show 0 < 64; omega) (by show 64 - 0 ≤ 63 + 1; omega)
  dsimp only at hc
  rw [Nat.sub_zero] at hc
  exact hc

/-- The reference's result is the loss of the program-free description. -/
theorem value_eq (h0 : ∀ i k, x (ix2 i k) = ((h i k : ℝ) : EReal)) (h1 : Blocks (fun k c => W1 (ix2 k c)) w) (j : S1x1.Idx) :
    value x W1 b1 W2 b2 Wt bt j = total (hid h w fun c => b1 (ix1 c)) (fun c l => W2 (ix2 c l)) (fun l => b2 (ix1 l))
      (fun c => Wt (ix2 c 0)) (bt (ix1 0)) := by
  have hH : ∀ i e c, i.val ≤ e.val → hidden x W1 b1 (ix3 i e c) = hid h w (fun c => b1 (ix1 c)) i e c := fun i e c hie =>
    hidden_at h0 h1 i e hie c
  have hf := fun i e l hie => augmented_at (W2 := W2) (b2 := b2) hH i e hie l
  have ht := tag_at (Wt := Wt) (bt := bt) hH
  have hg := gold_at hf
  have hc := charts_top (matrix_at hf)
  unfold value
  exact loss_eq hc hg ht j

end Value

end Cert.ReferenceIdeal.Stage

end
-- ==== Proof.Finite.lean ====
/- The precondition: its stated shape relations, and what it says of an array it holds of. -/
module

public import proofs.«01_k».proof.Pre_finite
public import Idealize.ShloMosaic.PureOps.Ideal
public import Idealize.ShloMosaic.Lib.Tactic
public import Idealize.ShloMosaic.Lib.ReduceAll
public import Idealize.ShloMosaic.Lib.Pointwise

@[expose] public section

set_option maxRecDepth 8192

noncomputable section

namespace Cert.Pre_finite

open Idealize.ShloMosaic

theorem holds : Facts where
  bcast_S_S30000x512 := by decide
  reducesTo_S30000x512_S_d0_1 := by decide
  h_S_ := by decide
  bcast_S_S100x128 := by decide
  reducesTo_S100x128_S_d0_1 := by decide
  bcast_S_S50x64 := by decide
  reducesTo_S50x64_S_d0_1 := by decide
  slices_S2112x1024_S704x1024_1408_0 := by decide
  bcast_S_S704x1024 := by decide
  reducesTo_S704x1024_S_d0_1 := by decide

/-- Every entry of the array is a real number. -/
def IsReal {S : Shape} (x : FVec Ideal S .f32) : Prop := ∃ r : S.Idx → ℝ, ∀ j, x j = ((r j : ℝ) : EReal)

/-- An extended real whose absolute value is below infinity is real. -/
theorem real_of_abs (x : EReal) (h : max x (-x) < ⊤) : x = ((x.toReal : ℝ) : EReal) := by
  refine (EReal.coe_toReal ?_ ?_).symm
  · rintro rfl
    exact absurd h (by simp)
  · rintro rfl
    exact absurd h (by simp)

theorem infinity : Ideal.ofBits FTy.f32 0x7F800000#32 = ⊤ := by simp [Ideal.ofBits, Ideal.ieee]

instance : Subsingleton S_.Idx := ⟨fun a b => funext fun i => i.elim0⟩

/-- An array of which the predicate's conjunct holds has real entries only. -/
theorem real_of_all {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .olt (Host.absf x) (broadcastInDim S ![] hb (constant S_ .f32 0x7F800000#32))) (constantI S_ 1 1#1) hr hu j = 1#1) :
    IsReal x := by
  refine ⟨fun i => (x i : EReal).toReal, fun i => real_of_abs _ ?_⟩
  have hi := Host.reduce_andi_all _ _ hr hu j h i
  have h2 : BitVec.ofBool (decide (max (x i : EReal) (-(x i : EReal)) < Ideal.ofBits FTy.f32 0x7F800000#32)) = 1#1 := hi
  rw [infinity] at h2
  by_contra hn
  rw [decide_eq_false hn] at h2
  exact absurd h2 (by decide)

/-- What the precondition says: the three embedding tables and the last 704 rows of the first weights are real. -/
theorem decode [Facts] {a0 : IVec S64 32} {a1 : IVec S64x16 32} {a2 : IVec S64 32} {a3 : IVec S_ 32} {a4 : FVec Ideal S30000x512 .f32}
    {a5 : FVec Ideal S100x128 .f32} {a6 : FVec Ideal S50x64 .f32} {a7 : FVec Ideal S2112x1024 .f32} {a8 : FVec Ideal S1024 .f32}
    {a9 : FVec Ideal S1024x256 .f32} {a10 : FVec Ideal S256 .f32} {a11 : FVec Ideal S1024x64 .f32} {a12 : FVec Ideal S64 .f32}
    (h : fn (F := Ideal) a0 a1 a2 a3 a4 a5 a6 a7 a8 a9 a10 a11 a12 ix0 = 1#1) : IsReal a4 ∧ IsReal a5 ∧ IsReal a6
    ∧ ∃ v : Fin 704 → Fin 1024 → ℝ, ∀ (k : Fin 704) c, a7 (ix2 ⟨1408 + k.val, by omega⟩ c) = ((v k c : ℝ) : EReal) := by
  unfold fn fn_part1 at h
  obtain ⟨h, h7⟩ := IntOp.andi_eq_one.1 h
  obtain ⟨h, h6⟩ := IntOp.andi_eq_one.1 h
  obtain ⟨h4, h5⟩ := IntOp.andi_eq_one.1 h
  obtain ⟨v, hv⟩ := real_of_all _ _ _ _ _ h7
  refine ⟨real_of_all a4 _ _ _ _ h4, real_of_all a5 _ _ _ _ h5, real_of_all a6 _ _ _ _ h6, fun k c => v (ix2 k c), fun k c => ?_⟩
  rw [← hv]
  pointwise

end Cert.Pre_finite

end
-- ==== Proof.RefTokens.lean ====
/- The token features are real when the embedding tables are. -/
module

public import proofs.«01_k».proof.Proof.RefStages
public import proofs.«01_k».proof.Proof.Finite
public import proofs.«01_k».proof.Proof.Spec
public import Idealize.ShloMosaic.Lib.Pointwise

@[expose] public section

set_option maxRecDepth 8192

noncomputable section

namespace Cert.ReferenceIdeal.Stage

open Cert.ReferenceIdeal Cert.ReferenceIdeal.Gen Cert.Span
open Cert.Pre_finite (IsReal)
open Idealize.ShloMosaic
open scoped BigOperators

/-- Rows picked from a real table are real. -/
theorem gather_real {s si t : Shape} {n : ℕ} (d : GatherDims s si t) {x : FVec Ideal s .f32} (hx : IsReal x) (idx : IVec si n) :
    IsReal (Host.gather d x idx) := by
  obtain ⟨r, hr⟩ := hx
  exact ⟨fun j => r (d.operandIdx j idx), fun j => hr _⟩

theorem sixteen : Ideal.ofBits FTy.f32 0x41800000#32 = ((16 : ℝ) : EReal) := by
  simp [Ideal.ofBits, Ideal.ieee, -EReal.coe_mul]; norm_num

/-- Real word, character and part-of-speech rows make real token features. -/
theorem concat_real {A : FVec Ideal S64x512 .f32} {B : FVec Ideal S64x16x128 .f32} {C : FVec Ideal S64x64 .f32} (hA : IsReal A) (hB : IsReal B)
    (hC : IsReal C) : ∃ h : Fin 64 → Fin 704 → ℝ, ∀ i k, concatenate S64x704 1
      [⟨S64x512, A⟩,
        ⟨S64x128, Host.divf (Host.reduceAdd B (constant S_ .f32 0x00000000#32) reducesTo_S64x16x128_S64x128_d1 h_S_)
          (broadcastInDim S64x128 ![] bcast_S_S64x128 (constant S_ .f32 0x41800000#32))⟩, ⟨S64x64, C⟩]
      concatenates_S64x512_S64x128_S64x64_S64x704_d1 (ix2 i k) = ((h i k : ℝ) : EReal) := by
  obtain ⟨a, ha⟩ := hA
  obtain ⟨b, hb⟩ := hB
  obtain ⟨c, hc⟩ := hC
  refine ⟨fun i k => if h1 : k.val < 512 then a (ix2 i ⟨k.val, h1⟩)
    else if h2 : k.val - 512 < 128 then (∑ q : Fin 16, b (ix3 i q ⟨k.val - 512, h2⟩)) * (1 / 16)
    else c (ix2 i ⟨k.val - 512 - 128, by omega⟩), fun i k => ?_⟩
  pointwise
  by_cases h1 : k.val < 512
  · rw [dif_pos h1, dif_pos h1, ha]
  · rw [dif_neg h1, dif_neg h1]
    by_cases h2 : k.val - 512 < 128
    · rw [dif_pos h2, dif_pos h2, sixteen, Ideal.div_coe (by norm_num), EReal.coe_mul, coe_sum]
      simp only [hb]
    · rw [dif_neg h2, dif_neg h2, hc]

theorem tokens_real {a0 : IVec S64 32} {a1 : IVec S64x16 32} {a2 : IVec S64 32} {a4 : FVec Ideal S30000x512 .f32} {a5 : FVec Ideal S100x128 .f32}
    {a6 : FVec Ideal S50x64 .f32} (h4 : IsReal a4) (h5 : IsReal a5) (h6 : IsReal a6) :
    ∃ h : Fin 64 → Fin 704 → ℝ, ∀ i k, tokens a0 a1 a2 a4 a5 a6 (ix2 i k) = ((h i k : ℝ) : EReal) := by
  unfold tokens
  exact concat_real (gather_real _ h4 _) (gather_real _ h5 _) (gather_real _ h6 _)

end Cert.ReferenceIdeal.Stage

end
-- ==== Proof.Agree.lean ====
/- The two programs agree: on arguments with real embedding tables and real first weights of the span mean, the number the kernel leaves is the number the
   reference leaves. -/
module

public import proofs.«01_k».proof.Defs
public import proofs.«01_k».proof.Proof.IdealArrays
public import proofs.«01_k».proof.Proof.RefChart
public import proofs.«01_k».proof.Proof.RefTokens

@[expose] public section

set_option maxRecDepth 16384

noncomputable section

namespace Cert.Proof

open Cert.Span (Blocks)
open Idealize.ShloMosaic Idealize.ShloMosaic.TcCoe Idealize.SL.Sem

attribute [local instance] Cert.Pre_finite.holds Cert.KernelIdeal.Gen.facts Cert.ReferenceIdeal.Gen.facts

theorem algebraic : algebraic_KernelIdeal_ReferenceIdeal_pre_finite (hKernelIdeal := Cert.KernelIdeal.Gen.facts)
    (hReferenceIdeal := Cert.ReferenceIdeal.Gen.facts) (hPre_finite := Cert.Pre_finite.holds) := by
  intro m g m' g' hpre hargs
  refine ⟨_, Cert.KernelIdeal.Body.run_out m g, ?_⟩
  refine (θ_run _ _ _).mono (fun r h c => ⟨(h c).1.trans ?_, (h c).2⟩) (Cert.ReferenceIdeal.Stage.run_value m' g')
  obtain ⟨e0, e1, e2, e3, e4, e5, e6, e7, e8, e9, e10, e11, e12⟩ := hargs c
  obtain ⟨r4, r5, r6, ⟨v, hv⟩⟩ := Cert.Pre_finite.decode (congrFun (hpre c) ix0)
  obtain ⟨h, hh⟩ := Cert.ReferenceIdeal.Stage.tokens_real (a0 := m ((c.tc : Thread Cert.KernelIdeal.nD Cert.KernelIdeal.τ).loc Cert.KernelIdeal.main_arg0))
    (a1 := m ((c.tc : Thread Cert.KernelIdeal.nD Cert.KernelIdeal.τ).loc Cert.KernelIdeal.main_arg1))
    (a2 := m ((c.tc : Thread Cert.KernelIdeal.nD Cert.KernelIdeal.τ).loc Cert.KernelIdeal.main_arg2)) r4 r5 r6
  have ht : Cert.ReferenceIdeal.Stage.tokensOf (fun b => m' (c, b)) = Cert.KernelIdeal.Body.tokensOf c m := by
    unfold Cert.ReferenceIdeal.Stage.tokensOf
    exact congr (congr (congr (congr (congr (congrArg Cert.ReferenceIdeal.Stage.tokens e0) e1) e2) e4) e5) e6
  funext j
  let W : FVec Ideal Cert.Pre_finite.S2112x1024 .f32 :=
    m' ((c.tc : Thread Cert.ReferenceIdeal.nD Cert.ReferenceIdeal.τ).loc Cert.ReferenceIdeal.main_arg7)
  have hw : Blocks (fun k c => W (ix2 k c)) ⟨fun k c => W (ix2 ⟨0 + k.val, by omega⟩ c), fun k c => W (ix2 ⟨704 + k.val, by omega⟩ c), v⟩ :=
    ⟨fun _ _ => rfl, fun _ _ => rfl, fun k c => (congrFun e7 _).trans (hv k c)⟩
  refine (Cert.ReferenceIdeal.Stage.value_eq (h := h) (fun i k => (congrFun ht (ix2 i k)).trans (hh i k)) hw j).trans ?_
  exact (Cert.KernelIdeal.Body.kernel_value c m (h := h) _ _ _ _ _ _ e7.symm e8.symm e9.symm e10.symm e11.symm e12.symm hh hw j).symm

end Cert.Proof

end
-- ==== Proof.lean ====
/- The proof of the certificate's claim: every program runs and leaves its arguments and semaphores alone, the kernel's one named constant
   stands for minus infinity, and the kernel's result is the reference's. -/
module

public import proofs.«01_k».proof.Defs
public import proofs.«01_k».proof.Proof.KernelFrame
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.holds,
  fun m g _ => Cert.Kernel.Body.quiet m g,
  fun m g _ => Cert.KernelIdeal.Body.quiet m g,
  fun m g _ => Cert.KernelIdeal.Body.quiet m g,
  fun m g _ => Cert.ReferenceIdeal.Stage.quiet m g,
  fun m g _ => Cert.ReferenceIdeal.Stage.quiet m g,
  IdealRules.named_const.statement Cert.KernelIdeal.κ "mask" .f32 0xF149F2CA#32 ⊥ rfl,
  algebraic⟩

end Cert.Proof

end
